-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024x768 : Shape := ⟨3, ![256, 1024, 768]⟩
abbrev S256x32x32 : Shape := ⟨3, ![256, 32, 32]⟩
abbrev S64x32x32 : Shape := ⟨3, ![64, 32, 32]⟩
abbrev S64x1024 : Shape := ⟨2, ![64, 1024]⟩
abbrev S64x256 : Shape := ⟨2, ![64, 256]⟩
abbrev S256x64 : Shape := ⟨2, ![256, 64]⟩
abbrev S256x32 : Shape := ⟨2, ![256, 32]⟩
abbrev S256x1 : Shape := ⟨2, ![256, 1]⟩
abbrev S1x1024 : Shape := ⟨2, ![1, 1024]⟩
abbrev S256x1024 : Shape := ⟨2, ![256, 1024]⟩
abbrev S256 : Shape := ⟨1, ![256]⟩
abbrev S32x32 : Shape := ⟨2, ![32, 32]⟩
abbrev S1x32x32 : Shape := ⟨3, ![1, 32, 32]⟩
abbrev S_ : Shape := ⟨0, ![]⟩

abbrev nBuf : Space → Nat
  | .hbm => 6
  | .vmem => 2
  | .smem => 0
  | _ => 0

abbrev bufTy : (tb : Table) → Fin (tcTables nBuf tb) → BufTy
  | .hbm, ⟨0, _⟩ => ⟨S256x1024x768, .f32⟩
  | .hbm, ⟨1, _⟩ => ⟨S256x32x32, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S256x1024, .i1⟩
  | .local _ .vmem, ⟨0, _⟩ => ⟨S64x32x32, .f32⟩
  | .local _ .vmem, ⟨1, _⟩ => ⟨S64x32x32, .f32⟩
  | _, _ => ⟨S256x1024x768, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S256x1024x768 : Shape := ⟨3, ![256, 1024, 768]⟩
abbrev S_ : Shape := ⟨0, ![]⟩
abbrev S1 : Shape := ⟨1, ![1]⟩
abbrev S2 : Shape := ⟨1, ![2]⟩
abbrev S1x1 : Shape := ⟨2, ![1, 1]⟩
abbrev S256x1024 : Shape := ⟨2, ![256, 1024]⟩

abbrev nBuf : Space → Nat
  | .hbm => 281
  | .vmem => 0
  | .smem => 0
  | _ => 0

abbrev hbmTy0_0 (i : Nat) : BufTy := match i % 128 with
  | 0 => ⟨S256x1024x768, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S256x1024, .i64⟩
  | 22 => ⟨S256x1024, .i64⟩
  | 23 => ⟨S_, .i64⟩
  | 24 => ⟨S256x1024, .i64⟩
  | 25 => ⟨S256x1024, .i64⟩
  | 26 => ⟨S_, .i64⟩
  | 27 => ⟨S256x1024, .i64⟩
  | 28 => ⟨S256x1024, .i64⟩
  | 29 => ⟨S256x1024, .i64⟩
  | 30 => ⟨S_, .i64⟩
  | 31 => ⟨S256x1024, .i64⟩
  | 32 => ⟨S256x1024, .i64⟩
  | 33 => ⟨S256x1024, .i32⟩
  | 34 => ⟨S256x1024, .i32⟩
  | 35 => ⟨S_, .i32⟩
  | 36 => ⟨S_, .i32⟩
  | 37 => ⟨S_, .i32⟩
  | 38 => ⟨S256x1024, .i32⟩
  | 39 => ⟨S256x1024, .i32⟩
  | 40 => ⟨S256x1024, .i32⟩
  | 41 => ⟨S256x1024, .i32⟩
  | 42 => ⟨S256x1024, .i32⟩
  | 43 => ⟨S_, .i32⟩
  | 44 => ⟨S256x1024, .i32⟩
  | 45 => ⟨S256x1024, .i32⟩
  | 46 => ⟨S_, .i32⟩
  | 47 => ⟨S256x1024, .i32⟩
  | 48 => ⟨S256x1024, .i32⟩
  | 49 => ⟨S256x1024, .i32⟩
  | 50 => ⟨S256x1024, .i32⟩
  | 51 => ⟨S256x1024, .i32⟩
  | 52 => ⟨S_, .i32⟩
  | 53 => ⟨S256x1024, .i32⟩
  | 54 => ⟨S256x1024, .i32⟩
  | 55 => ⟨S_, .i32⟩
  | 56 => ⟨S256x1024, .i32⟩
  | 57 => ⟨S256x1024, .i32⟩
  | 58 => ⟨S256x1024, .i32⟩
  | 59 => ⟨S256x1024, .i32⟩
  | 60 => ⟨S256x1024, .i32⟩
  | 61 => ⟨S_, .i32⟩
  | 62 => ⟨S256x1024, .i32⟩
  | 63 => ⟨S256x1024, .i32⟩
  | 64 => ⟨S_, .i32⟩
  | 65 => ⟨S256x1024, .i32⟩
  | 66 => ⟨S256x1024, .i32⟩
  | 67 => ⟨S256x1024, .i32⟩
  | 68 => ⟨S256x1024, .i32⟩
  | 69 => ⟨S256x1024, .i32⟩
  | 70 => ⟨S_, .i32⟩
  | 71 => ⟨S256x1024, .i32⟩
  | 72 => ⟨S256x1024, .i32⟩
  | 73 => ⟨S_, .i32⟩
  | 74 => ⟨S256x1024, .i32⟩
  | 75 => ⟨S256x1024, .i32⟩
  | 76 => ⟨S256x1024, .i32⟩
  | 77 => ⟨S256x1024, .i32⟩
  | 78 => ⟨S256x1024, .i32⟩
  | 79 => ⟨S256x1024, .i32⟩
  | 80 => ⟨S256x1024, .i32⟩
  | 81 => ⟨S256x1024, .i32⟩
  | 82 => ⟨S_, .i32⟩
  | 83 => ⟨S256x1024, .i32⟩
  | 84 => ⟨S256x1024, .i32⟩
  | 85 => ⟨S256x1024, .i32⟩
  | 86 => ⟨S_, .i32⟩
  | 87 => ⟨S256x1024, .i32⟩
  | 88 => ⟨S256x1024, .i32⟩
  | 89 => ⟨S_, .i32⟩
  | 90 => ⟨S256x1024, .i32⟩
  | 91 => ⟨S256x1024, .i32⟩
  | 92 => ⟨S256x1024, .i32⟩
  | 93 => ⟨S256x1024, .i32⟩
  | 94 => ⟨S256x1024, .i32⟩
  | 95 => ⟨S_, .i32⟩
  | 96 => ⟨S256x1024, .i32⟩
  | 97 => ⟨S256x1024, .i32⟩
  | 98 => ⟨S_, .i32⟩
  | 99 => ⟨S256x1024, .i32⟩
  | 100 => ⟨S256x1024, .i32⟩
  | 101 => ⟨S256x1024, .i32⟩
  | 102 => ⟨S256x1024, .i32⟩
  | 103 => ⟨S256x1024, .i32⟩
  | 104 => ⟨S_, .i32⟩
  | 105 => ⟨S256x1024, .i32⟩
  | 106 => ⟨S256x1024, .i32⟩
  | 107 => ⟨S_, .i32⟩
  | 108 => ⟨S256x1024, .i32⟩
  | 109 => ⟨S256x1024, .i32⟩
  | 110 => ⟨S256x1024, .i32⟩
  | 111 => ⟨S256x1024, .i32⟩
  | 112 => ⟨S256x1024, .i32⟩
  | 113 => ⟨S_, .i32⟩
  | 114 => ⟨S256x1024, .i32⟩
  | 115 => ⟨S256x1024, .i32⟩
  | 116 => ⟨S_, .i32⟩
  | 117 => ⟨S256x1024, .i32⟩
  | 118 => ⟨S256x1024, .i32⟩
  | 119 => ⟨S256x1024, .i32⟩
  | 120 => ⟨S256x1024, .i32⟩
  | 121 => ⟨S256x1024, .i32⟩
  | 122 => ⟨S256x1024, .i32⟩
  | 123 => ⟨S256x1024, .i32⟩
  | 124 => ⟨S256x1024, .i32⟩
  | 125 => ⟨S_, .i32⟩
  | 126 => ⟨S256x1024, .i32⟩
  | 127 => ⟨S256x1024, .i32⟩
  | _ => ⟨S256x1024x768, .f32⟩

abbrev hbmTy0_1 (i : Nat) : BufTy := match i % 128 with
  | 0 => ⟨S256x1024, .i32⟩
  | 1 => ⟨S_, .i32⟩
  | 2 => ⟨S256x1024, .i32⟩
  | 3 => ⟨S256x1024, .i32⟩
  | 4 => ⟨S_, .i32⟩
  | 5 => ⟨S256x1024, .i32⟩
  | 6 => ⟨S256x1024, .i32⟩
  | 7 => ⟨S256x1024, .i32⟩
  | 8 => ⟨S256x1024, .i32⟩
  | 9 => ⟨S256x1024, .i32⟩
  | 10 => ⟨S_, .i32⟩
  | 11 => ⟨S256x1024, .i32⟩
  | 12 => ⟨S256x1024, .i32⟩
  | 13 => ⟨S_, .i32⟩
  | 14 => ⟨S256x1024, .i32⟩
  | 15 => ⟨S256x1024, .i32⟩
  | 16 => ⟨S256x1024, .i32⟩
  | 17 => ⟨S256x1024, .i32⟩
  | 18 => ⟨S256x1024, .i32⟩
  | 19 => ⟨S_, .i32⟩
  | 20 => ⟨S256x1024, .i32⟩
  | 21 => ⟨S256x1024, .i32⟩
  | 22 => ⟨S_, .i32⟩
  | 23 => ⟨S256x1024, .i32⟩
  | 24 => ⟨S256x1024, .i32⟩
  | 25 => ⟨S256x1024, .i32⟩
  | 26 => ⟨S256x1024, .i32⟩
  | 27 => ⟨S256x1024, .i32⟩
  | 28 => ⟨S_, .i32⟩
  | 29 => ⟨S256x1024, .i32⟩
  | 30 => ⟨S256x1024, .i32⟩
  | 31 => ⟨S_, .i32⟩
  | 32 => ⟨S256x1024, .i32⟩
  | 33 => ⟨S256x1024, .i32⟩
  | 34 => ⟨S256x1024, .i32⟩
  | 35 => ⟨S256x1024, .i32⟩
  | 36 => ⟨S256x1024, .i32⟩
  | 37 => ⟨S256x1024, .i32⟩
  | 38 => ⟨S256x1024, .i32⟩
  | 39 => ⟨S256x1024, .i32⟩
  | 40 => ⟨S_, .i32⟩
  | 41 => ⟨S256x1024, .i32⟩
  | 42 => ⟨S256x1024, .i32⟩
  | 43 => ⟨S256x1024, .i32⟩
  | 44 => ⟨S_, .i32⟩
  | 45 => ⟨S256x1024, .i32⟩
  | 46 => ⟨S256x1024, .i32⟩
  | 47 => ⟨S_, .i32⟩
  | 48 => ⟨S256x1024, .i32⟩
  | 49 => ⟨S256x1024, .i32⟩
  | 50 => ⟨S256x1024, .i32⟩
  | 51 => ⟨S256x1024, .i32⟩
  | 52 => ⟨S256x1024, .i32⟩
  | 53 => ⟨S_, .i32⟩
  | 54 => ⟨S256x1024, .i32⟩
  | 55 => ⟨S256x1024, .i32⟩
  | 56 => ⟨S_, .i32⟩
  | 57 => ⟨S256x1024, .i32⟩
  | 58 => ⟨S256x1024, .i32⟩
  | 59 => ⟨S256x1024, .i32⟩
  | 60 => ⟨S256x1024, .i32⟩
  | 61 => ⟨S256x1024, .i32⟩
  | 62 => ⟨S_, .i32⟩
  | 63 => ⟨S256x1024, .i32⟩
  | 64 => ⟨S256x1024, .i32⟩
  | 65 => ⟨S_, .i32⟩
  | 66 => ⟨S256x1024, .i32⟩
  | 67 => ⟨S256x1024, .i32⟩
  | 68 => ⟨S256x1024, .i32⟩
  | 69 => ⟨S256x1024, .i32⟩
  | 70 => ⟨S256x1024, .i32⟩
  | 71 => ⟨S_, .i32⟩
  | 72 => ⟨S256x1024, .i32⟩
  | 73 => ⟨S256x1024, .i32⟩
  | 74 => ⟨S_, .i32⟩
  | 75 => ⟨S256x1024, .i32⟩
  | 76 => ⟨S256x1024, .i32⟩
  | 77 => ⟨S256x1024, .i32⟩
  | 78 => ⟨S256x1024, .i32⟩
  | 79 => ⟨S256x1024, .i32⟩
  | 80 => ⟨S256x1024, .i32⟩
  | 81 => ⟨S256x1024, .i32⟩
  | 82 => ⟨S256x1024, .i32⟩
  | 83 => ⟨S_, .i32⟩
  | 84 => ⟨S256x1024, .i32⟩
  | 85 => ⟨S256x1024, .i32⟩
  | 86 => ⟨S256x1024, .i32⟩
  | 87 => ⟨S_, .i32⟩
  | 88 => ⟨S256x1024, .i32⟩
  | 89 => ⟨S256x1024, .i32⟩
  | 90 => ⟨S_, .i32⟩
  | 91 => ⟨S256x1024, .i32⟩
  | 92 => ⟨S256x1024, .i32⟩
  | 93 => ⟨S256x1024, .i32⟩
  | 94 => ⟨S256x1024, .i32⟩
  | 95 => ⟨S256x1024, .i32⟩
  | 96 => ⟨S_, .i32⟩
  | 97 => ⟨S256x1024, .i32⟩
  | 98 => ⟨S256x1024, .i32⟩
  | 99 => ⟨S_, .i32⟩
  | 100 => ⟨S256x1024, .i32⟩
  | 101 => ⟨S256x1024, .i32⟩
  | 102 => ⟨S256x1024, .i32⟩
  | 103 => ⟨S256x1024, .i32⟩
  | 104 => ⟨S256x1024, .i32⟩
  | 105 => ⟨S_, .i32⟩
  | 106 => ⟨S256x1024, .i32⟩
  | 107 => ⟨S256x1024, .i32⟩
  | 108 => ⟨S_, .i32⟩
  | 109 => ⟨S256x1024, .i32⟩
  | 110 => ⟨S256x1024, .i32⟩
  | 111 => ⟨S256x1024, .i32⟩
  | 112 => ⟨S256x1024, .i32⟩
  | 113 => ⟨S256x1024, .i32⟩
  | 114 => ⟨S_, .i32⟩
  | 115 => ⟨S256x1024, .i32⟩
  | 116 => ⟨S256x1024, .i32⟩
  | 117 => ⟨S_, .i32⟩
  | 118 => ⟨S256x1024, .i32⟩
  | 119 => ⟨S256x1024, .i32⟩
  | 120 => ⟨S256x1024, .i32⟩
  | 121 => ⟨S256x1024, .i32⟩
  | 122 => ⟨S256x1024, .i32⟩
  | 123 => ⟨S256x1024, .i32⟩
  | 124 => ⟨S256x1024, .i32⟩
  | 125 => ⟨S256x1024, .i32⟩
  | 126 => ⟨S_, .i32⟩
  | 127 => ⟨S256x1024, .i32⟩
  | _ => ⟨S256x1024x768, .f32⟩

abbrev hbmTy0_2 (i : Nat) : BufTy := match i % 128 with
  | 0 => ⟨S256x1024, .i32⟩
  | 1 => ⟨S256x1024, .i32⟩
  | 2 => ⟨S_, .i32⟩
  | 3 => ⟨S256x1024, .i32⟩
  | 4 => ⟨S256x1024, .i32⟩
  | 5 => ⟨S_, .i32⟩
  | 6 => ⟨S256x1024, .i32⟩
  | 7 => ⟨S256x1024, .i32⟩
  | 8 => ⟨S256x1024, .f32⟩
  | 9 => ⟨S_, .f32⟩
  | 10 => ⟨S256x1024, .f32⟩
  | 11 => ⟨S256x1024, .f32⟩
  | 12 => ⟨S1x1, .f32⟩
  | 13 => ⟨S256x1024, .f32⟩
  | 14 => ⟨S256x1024, .f32⟩
  | 15 => ⟨S256x1024, .f32⟩
  | 16 => ⟨S256x1024, .f32⟩
  | 17 => ⟨S256x1024, .f32⟩
  | 18 => ⟨S256x1024, .f32⟩
  | 19 => ⟨S256x1024, .i32⟩
  | 20 => ⟨S256x1024, .f32⟩
  | 21 => ⟨S256x1024, .i32⟩
  | 22 => ⟨S_, .i32⟩
  | 23 => ⟨S256x1024, .i32⟩
  | 24 => ⟨S256x1024, .i1⟩
  | _ => ⟨S256x1024x768, .f32⟩

abbrev hbmTy (i : Nat) : BufTy := match i / 128 with
  | 0 => hbmTy0_0 i
  | 1 => hbmTy0_1 i
  | 2 => hbmTy0_2 i
  | _ => ⟨S256x1024x768, .f32⟩

abbrev bufTy : (tb : Table) → Fin (tcTables nBuf tb) → BufTy
  | .hbm, ⟨i, _⟩ => hbmTy i
  | _, _ => ⟨S256x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_call1_v0 : Ref sig .tc := ⟨.hbm, 275, rfl⟩
abbrev main_call1_v1_0 : Ref sig .tc := ⟨.hbm, 276, rfl⟩
abbrev main_v8 : Ref sig .tc := ⟨.hbm, 277, rfl⟩
abbrev main_c_3 : Ref sig .tc := ⟨.hbm, 278, rfl⟩
abbrev main_v9 : Ref sig .tc := ⟨.hbm, 279, rfl⟩
abbrev main_v10 : Ref sig .tc := ⟨.hbm, 280, rfl⟩

abbrev nD : Nat := 1
abbrev τ : Topo := Topo.v7x

variable {F : FTy → Type} [FloatOps F]
-- ==== Proof.Rows.lean ====
/-
  The block one grid step of the kernel leaves, row by row. Each of its 64 stores writes the same function of
  the step's keys, at its own row.
-/
module

public import proofs.«01_k».proof.Proof.Gen.KernelIdeal.Skeleton
public import Idealize.ShloMosaic.Lib.Pipeline.FrameBody

@[expose] public section

set_option maxRecDepth 16384

noncomputable section

namespace Cert.Rows

open Idealize.ShloMosaic Cert.KernelIdeal Cert.KernelIdeal.Gen

variable {F : FTy → Type} [FloatOps F]

theorem row_slices {r : ℕ} (h : r < 64) : S64x1024.Slices ![r, 0] S1x1024 := by
  refine ⟨rfl, fun a => ?_⟩
  fin_cases a
  · show r + 1 ≤ 64; omega
  · show 0 + 1024 ≤ 1024; omega
theorem col_slices {r : ℕ} (h : r < 64) : S256x64.Slices ![0, r] S256x1 := by
  refine ⟨rfl, fun a => ?_⟩
  fin_cases a
  · show 0 + 256 ≤ 256; omega
  · show r + 1 ≤ 64; omega
theorem row_fits {r : ℕ} (h : r < 64) : ∀ a, (![r, 0, 0] : Fin 3 → ℕ) a + S1x32x32.size a ≤ S64x32x32.size a := by
  intro a
  fin_cases a
  · show r + 1 ≤ 64; omega
  · show 0 + 32 ≤ 32; omega
  · show 0 + 32 ≤ 32; omega

/-- Row `r` of the output block. -/
abbrev rowRect (r : ℕ) (h : r < 64) : Rect S64x32x32 := Rect.unit (s := S64x32x32) ![r, 0, 0] S1x32x32.size (row_fits h)

/-- How many keys of row `r` are below each of its last 256 keys, as a column of floats. -/
def below (r : ℕ) (h : r < 64) (K : IVec S64x1024 32) (T : IVec S256x64 32) : FVec F S256 .f32 :=
  multiReduction .add [1] S256
    (sitofp .f32 (extui 32 (cmpi .slt
      (broadcastTo S256x1024 (extractStridedSlice S1x1024 ![r, 0] K (row_slices h)) broadcasts_S1x1024_S256x1024)
      (broadcastTo S256x1024 (extractStridedSlice S256x1 ![0, r] T (col_slices h)) broadcasts_S256x1_S256x1024)) natLt_1_32))
    0x00000000#32 reduces_S256x1024_S256 (.inl rfl) rfl

/-- The column as words. -/
def rank (b : FVec F S256 .f32) : IVec S256x1 32 := fptosi 32 (shapeCast S256x1 b shapeCasts_S256_S256x1)

/-- One indicator per row and column: where the word in the row is the column's number. -/
def onehot (q : IVec S256x1 32) : FVec F S256x32 .f32 :=
  sitofp .f32 (extui 32 (cmpi .eq (broadcastTo S256x32 q broadcasts_S256x1_S256x32)
    (iota .tc S256x32 32 [1] iota_S256x32_d1_w32)) natLt_1_32)

/-- What row `r`'s store writes: how many of the last 256 keys have the rank `32 * a + b`, at `(a, b)`. -/
def tally (q : IVec S256x1 32) : FVec F S1x32x32 .f32 :=
  shapeCast S1x32x32 (matmul dot_S256x32_S256x32_S32x32_0_0_1_1_n_n none
    (onehot (shrsi q (broadcast S256x1 5#32))) (onehot (andi q (broadcast S256x1 31#32)))
    (constant S32x32 .f32 0x00000000#32)) shapeCasts_S32x32_S1x32x32

/-- The first `n` stores of rows `w`, the last of them first. -/
def stores (w : (r : ℕ) → r < 64 → Vec F S1x32x32 .f32) : (n : ℕ) → n ≤ 64 → List (View.Piece (Elt F) S64x32x32 .f32)
  | 0, _ => []
  | n + 1, h => ⟨rowRect n h, w n h⟩ :: stores w n (Nat.le_of_succ_le h)

/-- Row `r`'s store is where the first coordinate is `r`. -/
theorem mem_rowRect {r : ℕ} (h : r < 64) (y : S64x32x32.Idx) : y ∈ (rowRect r h).set ↔ (y 0).val = r := by
  rw [rowRect, Rect.mem_set_unit]
  constructor
  · intro e
    have e0 := e 0
    have h1 : r ≤ (y 0).val := e0.1
    have h2 : (y 0).val < r + 1 := e0.2
    omega
  · intro e a
    fin_cases a
    · exact ⟨le_of_eq e.symm, lt_of_eq_of_lt e (Nat.lt_succ_self r)⟩
    · exact ⟨Nat.zero_le _, (y 1).isLt⟩
    · exact ⟨Nat.zero_le _, (y 2).isLt⟩

/-- Some store of the first `n` is at `y`, when `y`'s row is one of the first `n`. -/
theorem stores_cover (w : (r : ℕ) → r < 64 → Vec F S1x32x32 .f32) (y : S64x32x32.Idx) :
    ∀ (n : ℕ) (h : n ≤ 64), (y 0).val < n → ∃ p ∈ stores w n h, y ∈ p.1.set
  | 0, _, hy => absurd hy (Nat.not_lt_zero _)
  | n + 1, h, hy => by
    by_cases e : (y 0).val = n
    · exact ⟨_, List.mem_cons_self, (mem_rowRect h y).mpr e⟩
    · obtain ⟨p, hp, hm⟩ := stores_cover w y n (Nat.le_of_succ_le h) (by omega)
      exact ⟨p, List.mem_cons_of_mem _ hp, hm⟩

/-- What the first `n` stores leave in row `r`, one of the first `n`: what the row's own store writes. -/
theorem canon_stores (w : (r : ℕ) → r < 64 → Vec F S1x32x32 .f32) (r : ℕ) (hr : r < 64) (x : S1x32x32.Idx) :
    ∀ (n : ℕ) (h : n ≤ 64), r < n → View.canon (stores w n h) ((rowRect r hr).emb x) = w r hr x
  | 0, _, hy => absurd hy (Nat.not_lt_zero _)
  | n + 1, h, hy => by
    by_cases e : r = n
    · subst e
      exact View.canon_cons_emb (rowRect r hr) (w r hr) (stores w r (Nat.le_of_succ_le h)) x
    · have hm : (rowRect r hr).emb x ∉ (rowRect n h).set := by
        intro hm
        have h0 : ((rowRect r hr).emb x 0).val = r := (mem_rowRect hr _).mp ((rowRect r hr).idx_mem x)
        have h1 : ((rowRect r hr).emb x 0).val = n := (mem_rowRect h _).mp hm
        omega
      exact (View.canon_cons_of_not_mem ⟨rowRect n h, w n h⟩ (stores w n (Nat.le_of_succ_le h)) hm).trans
        (canon_stores w r hr x n (Nat.le_of_succ_le h) (by omega))

/-- The keys of the step. -/
def keys (i : grid0.Coords) : IVec S64x1024 32 :=
  let c := Scalar.xori (Scalar.xori 466688986#32 0#32) 1#32
  let a := k0_pay20 c (k0_pay9 i) (k0_pay10 i)
  let b := k0_pay21 c (k0_pay9 i) (k0_pay10 i)
  k0_pay47 (iota .tc S64x1024 32 [1] iota_S64x1024_d1_w32)
    (k0_pay45 c (k0_pay32 a b) (k0_pay33 a b) (k0_pay34 a b) 16#32)
    (k0_pay46 c (k0_pay32 a b) (k0_pay33 a b) (k0_pay34 a b) 16#32) 0#32

/-- The last 256 keys of each row, one column per row. -/
def tails (K : IVec S64x1024 32) : IVec S256x64 32 :=
  transpose S256x64 [1, 0] (extractStridedSlice S64x256 ![0, 768] K slices_S64x1024_o0_768_S64x256)
    transposes_S64x256_p1_0_S256x64

/-- What the step leaves in its block. -/
def left (i : grid0.Coords) : Vec F S64x32x32 .f32 :=
  View.canon (stores (fun r h => tally (rank (F := F) (below r h (keys i) (tails (keys i))))) 64 le_rfl)

end Cert.Rows
-- ==== Proof.KernelFrame.lean ====
/-
  The launch of the idealized kernel: its four grid steps each leave `Rows.left` in their block of the output, and the
  host lines after them read it. The run, with its argument and its semaphore counters, and the contents it ends with.
-/
module

public import proofs.«01_k».proof.Proof.Gen.KernelIdeal.Launch
public import proofs.«01_k».proof.Proof.Gen.KernelIdeal.Points
public import proofs.«01_k».proof.Proof.Rows
public import Idealize.ShloMosaic.Lib.Pipeline.FrameSuffix
public import Idealize.ShloMosaic.Lib.Claim
public import Idealize.ShloMosaic.Lib.Tactic

@[expose] public section

set_option maxRecDepth 16384

noncomputable section

namespace Cert.KernelFrame

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the launch -/

/-- The contents at the launch: nothing comes before it. -/
abbrev atEntry (c : Dev nD) : Valuation τ sig (Elt F) := StableHlo.after (List.flatten []) (fun b => m (c, b))

/-- A host line writes its own result alone, which is neither the argument nor the launch's output. -/
theorem host_writes {op : HloOp τ sig (Elt F)} (h : op ∈ (hostOps1 : List (HloOp τ sig (Elt F)))) :
    op.fresh = ∅ ∧ Proc.devRef .tc main_arg0 ∉ op.writes ∧ Proc.devRef .tc main_v0 ∉ op.writes := by
  simp only [hostOps1, List.mem_cons, List.mem_nil_iff, or_false] at h
  rcases h with rfl | rfl | rfl | rfl
  all_goals
    refine ⟨rfl, ?_, ?_⟩ <;>
    · simp only [StableHlo.nullary_writes, StableHlo.unary_writes, StableHlo.binary_writes, StableHlo.reshape_writes,
        Finset.mem_singleton]
      exact StableHlo.devRef_ne_of_ne (by decide)

theorem mem_host {ops : List (HloOp τ sig (Elt F))} (h : ops ∈ ([hostOps1] : List (List (HloOp τ sig (Elt F)))))
    {op : HloOp τ sig (Elt F)} (hop : op ∈ ops) : op ∈ (hostOps1 : List (HloOp τ sig (Elt F))) := by
  rw [List.mem_singleton] at h
  exact h ▸ hop

/-- The program is the launch, then the host lines. -/
theorem main_around (𝒱₀ : Variants) : Pipeline.HMainK (Ix := Unit) (Name := ℕ) (U := UR sig nD τ) (Lvl := ℕ) cfgs 0 defs₀ 𝒱₀ m
    (main (F := F)) (fun c b => atEntry m c (Proc.devRef .tc b)) (fun _ => Pipeline.chain ([hostOps1].map StableHlo.seq)) :=
  Pipeline.hmain_around cfgs 0 defs₀ 𝒱₀ m main [] [hostOps1] (by simp only [List.Forall])
    (by simp only [List.Forall]) main_chain

/-! ## One grid step -/

set_option maxHeartbeats 2000000 in
/-- One grid step leaves `Rows.left` in its buffer, whatever the buffer held. -/
theorem step_leaves (c : Dev nD) (E : Set ℕ) (i : grid0.Coords) (o : Memref sig .tc .vmem S64x32x32 .f32) (ho : o.IsWhole)
    (K : PUnit → sProp 𝕄) :
    iprop((∃ d, owns (c : Thread nD τ) o fullShare d) ∗ (iprop(owns (c : Thread nD τ) o fullShare (Rows.left i)) -∗ K ⟨⟩))
      ⊢ wp frame (wpE (defs₀ (F := F)) Variants.none c none) E (cc0__body i o ho) K := by
  simp only [cc0__body_eq_skeleton]; unfold cc0__body_skel
  simp only [k0_part41_eq_skeleton, k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton,
    k0_part15_eq_skeleton, k0_part16_eq_skeleton, k0_part17_eq_skeleton, k0_part18_eq_skeleton, k0_part19_eq_skeleton,
    k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton,
    k0_part30_eq_skeleton, k0_part31_eq_skeleton, k0_part32_eq_skeleton, k0_part33_eq_skeleton, k0_part34_eq_skeleton,
    k0_part35_eq_skeleton, k0_part36_eq_skeleton, k0_part37_eq_skeleton, k0_part38_eq_skeleton, k0_part39_eq_skeleton,
    k0_part40_eq_skeleton]
  unfold owns
  iintro ⟨⟨%d, %f, -, H⟩, Hk⟩
  sl_exec
  sl_step
  iapply Hk
  iexists _; isplitr
  swap; · iexact H
  ipureintro
  exact View.read_writes_eq_canon _ _
    (Rows.stores (fun r h => Rows.tally (Rows.rank (F := F) (Rows.below r h (Rows.keys i) (Rows.tails (Rows.keys i))))) 64 le_rfl)
    fun y => Rows.stores_cover _ y 64 le_rfl (y 0).isLt

/-! ## The launch -/

/-- What the launch finds and leaves: the contents at entry; after step `t`, the buffer at `Rows.left`. -/
def dats (_ : Fin 1) (c : Dev nD) : Dat τ (Elt F) Unit ℕ (UR sig nD τ) ℕ cfg0 c where
  A w := atEntry m c (Proc.devRef .tc (Pipeline.arrRef spec0 w))
  after w t := match w with
    | ⟨0, _⟩ => Rows.left (grid0.coords t)
  Φ _ := Pipeline.ΦA spec0 c
  q _ := fullShare
  owed _ := 0

theorem dats_after (c : Dev nD) (t : Fin cfg0.N) : (dats (F := F) m 0 c).after 0 t = Rows.left (grid0.coords t) := by dsimp only [dats]

/-- The step at point `t`, on the buffer the launch hands it. -/
theorem step_at (c : Dev nD) (t : Fin cfg0.N) :
    iprop((dats m 0 c).Φ t.castSucc ∗ (dats m 0 c).owesAt () t.castSucc
        ∗ (∃ d, owns (c : Thread nD τ) (st0_0 t) fullShare ((dats m 0 c).before 0 t d)))
      ⊢ wp frame (wpE (defs₀ (F := F)) Variants.none c none) Set.univ (bodyAt0 t) fun _ =>
        iprop((dats m 0 c).Φ t.succ ∗ (dats m 0 c).owesAt () t.succ
          ∗ owns (c : Thread nD τ) (st0_0 t) fullShare ((dats m 0 c).after 0 t)) := by
  unfold bodyAt0
  rw [show (dats m 0 c).Φ t.succ = (dats m 0 c).Φ t.castSucc from rfl,
    show (dats m 0 c).owesAt () t.succ = (dats m 0 c).owesAt () t.castSucc from rfl, dats_after]
  iintro ⟨HΦ, Ho, ⟨%d, H⟩⟩
  iapply (step_leaves c Set.univ (grid0.coords t) _ _ _)
  isplitl [H]; · iexists _; iexact H
  iintro ⟨H⟩
  isplitl [HΦ]; · iexact HΦ
  isplitl [Ho]; · iexact Ho
  iexact H

theorem defs_at (t : Fin cfg0.N) : defs₀ (F := F) .tc cfg0.body (cfg0.bodyArgs t (cfg0.slots t)) = bodyAt0 t := by
  unfold defs₀; rw [Defs.onTc_tc]

theorem steps (c : Dev nD) : BodyObligation (dats (F := F) m 0 c) (defs₀ (F := F)) Variants.none () Set.univ := fun t => by
  rw [bigSep_W0, bigSep_W0, defs_at]
  exact triple_restated (step_at m c t) rfl .rfl fun _ => .rfl

set_option backward.isDefEq.respectTransparency.types false in
set_option maxHeartbeats 800000 in
/-- Every run ends, with the arrays at what the steps leave, every other buffer at what the host lines leave, and the
    counters at zero. -/
theorem runs : θ_run defs (onTc (τ := τ) (main (F := F))) (s₀ m ρ) (fun r =>
    Pipeline.FramePost cfgs (dats m) 0 (Pipeline.afterTail₀ cfgs (dats m) 0 (atEntry m) [hostOps1]) r ∧ r.2.sem = fun _ => 0) :=
  Pipeline.θ_run_frame_around (Q' := _) cfgs (dats m) (0 : Fin 1) launch0 defs₀ Variants.none m ρ main
    (hbody := fun c => (steps m c).loose) (hshare := fun c => (dats m 0 c).share_full fun _ => rfl)
    (howed := fun _ _ => rfl) (V₀ := atEntry m) (opss := [hostOps1])
    (hsub := by
      rw [Pipeline.tailRefs_none spec0 launch0.win.arr_unscoped]
      exact fun ops h op hop =>
        Pipeline.sub_ucRefs op ((List.forall_iff_forall_mem.mp hostOps1_sub) op (mem_host h hop)))
    (hfresh := fun ops h op hop => (host_writes (mem_host h hop)).1)
    (hkeep := fun ops h op hop w => by fin_cases w; exact (host_writes (mem_host h hop)).2.2)
    (hmain := main_around m Variants.none) (hA := fun c w => by dsimp only [dats]) (hΦ := fun _ _ => rfl)

/-- The argument after the host lines is the argument. -/
theorem arg_kept (c : Dev nD) :
    Pipeline.afterTail₀ cfgs (dats m) 0 (atEntry m) [hostOps1] c main_arg0 = m ((c : Thread nD τ).loc main_arg0) := by
  unfold Pipeline.afterTail₀
  rw [StableHlo.after_of_forall_not_mem (b := Proc.devRef .tc main_arg0) _ _ (fun op hop =>
      (host_writes (by simpa only [List.flatten_cons, List.flatten_nil, List.append_nil] using hop)).2.1),
    Pipeline.withArrays_of_ne _ c (atEntry m c) _ main_arg0 (by exact (by decide : ∀ w, Pipeline.arrRef spec0 w ≠ main_arg0))]
  rfl

/-- The run leaves the argument as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).2 main_arg0
    (Pipeline.mem_restRefs_of main_arg0 (by decide) (by decide))).trans (arg_kept m c), h.2⟩) (runs m ρ)

end Cert.KernelFrame
-- ==== Proof.SameProgram.lean ====
/-
  The kernel as compiled and the idealized kernel print the same program, with no rewrite between them: what is proved
  of the one's runs, at any values, holds of the other's.
-/
module

public import proofs.«01_k».proof.Proof.KernelFrame
public import proofs.«01_k».proof.Proof.Gen.Kernel
public import proofs.«01_k».proof.Defs

@[expose] public section

set_option maxRecDepth 16384

noncomputable section

namespace Cert.SameProgram

open Idealize.ShloMosaic Idealize.SL.Sem

variable {F : FTy → Type} [FloatOps F]

/-- The two body tables are the same. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => with_unfolding_all rfl
  | ⟨_ + 1, h⟩, _ => exact absurd h (Nat.not_lt.2 (Nat.le_add_left _ _))

/-- And so are the whole tables. -/
theorem defs_eq : Cert.Kernel.defs (F := F) = Cert.KernelIdeal.defs (F := F) :=
  congrArg (Pipeline.defs Cert.KernelIdeal.pcfgs) bodies_eq

/-- And the host programs. -/
theorem main_eq : Cert.Kernel.main (F := F) = Cert.KernelIdeal.main (F := F) := by with_unfolding_all rfl

/-- The compiled kernel's run leaves the argument as it was and every semaphore counter at zero. -/
theorem frame : Cert.quiescent_Kernel := fun m g _ => by
  rw [defs_eq, main_eq]
  exact Cert.KernelFrame.frame (F := Bits) m g

end Cert.SameProgram
-- ==== Proof.Steps.lean ====
/-
  A straight line of host operations in which each value is written once and read only afterwards: at the
  end every operation's equation holds of the final contents at once. The operations are described by
  `Step`; the line's order is checked by the buffers' indices.
-/
module

public import Idealize.ShloMosaic.Lib.StableHlo.RunHlo

@[expose] public section

noncomputable section

namespace Cert.Steps

open Idealize.ShloMosaic Idealize.ShloMosaic.StableHlo

variable {τ : Topo} {sig : RefSig} {Val : EltTy → Type}

/-- A host operation of no, one or two operands, or a reshape. -/
inductive Step (sig : RefSig) (Val : EltTy → Type) where
  | nul {T : BufTy} (y : TRef sig T) (v : T.Contents Val)
  | un {A T : BufTy} (a : TRef sig A) (y : TRef sig T) (f : A.Contents Val → T.Contents Val)
  | bin {A B T : BufTy} (a : TRef sig A) (b : TRef sig B) (y : TRef sig T) (f : A.Contents Val → B.Contents Val → T.Contents Val)
  | shape {A T : BufTy} (a : TRef sig A) (y : TRef sig T) (he : A.elt = T.elt) (hn : A.shape.ShapeCasts T.shape)

/-- What a valuation holds at a typed reference. -/
def val {T : BufTy} (V : Valuation τ sig Val) (y : TRef sig T) : T.Contents Val :=
  y.ofBuf (V (Proc.devRef .tc y.ref))

namespace Step

/-- The operation. -/
def toOp : Step sig Val → HloOp τ sig Val
  | nul y v => TRef.nullary y v
  | un a y f => TRef.unary a y f
  | bin a b y f => TRef.binary a b y f
  | shape a y he hn => TRef.reshape a y he hn

/-- The buffer it writes. -/
def out : Step sig Val → Ref sig .tc
  | nul y _ => y.ref
  | un _ y _ => y.ref
  | bin _ _ y _ => y.ref
  | shape _ y _ _ => y.ref

/-- The buffers it reads. -/
def ins : Step sig Val → List (Ref sig .tc)
  | nul _ _ => []
  | un a _ _ => [a.ref]
  | bin a b _ _ => [a.ref, b.ref]
  | shape a _ _ _ => [a.ref]

/-- Its equation between the contents of its result and those of its operands. -/
def Holds (V : Valuation τ sig Val) : Step sig Val → Prop
  | nul y v => val V y = v
  | un a y f => val V y = f (val V a)
  | bin a b y f => val V y = f (val V a) (val V b)
  | @shape _ _ _ T a y he hn => val V y = fun i => he ▸ shapeCast T.shape (val V a) hn i

theorem writes_toOp (s : Step sig Val) : (s.toOp : HloOp τ sig Val).writes = {Proc.devRef .tc s.out} := by
  cases s <;> rfl

theorem bufs_toOp (s : Step sig Val) : (s.toOp : HloOp τ sig Val).bufs ⊆ tcRefs τ sig := by
  cases s with
  | nul y v => exact nullary_bufs_sub y.ref (y.toBuf v) y.dev
  | un a y f => exact unary_bufs_sub a.ref y.ref (fun u => y.toBuf (f (a.ofBuf u))) a.dev y.dev
  | bin a b y f => exact binary_bufs_sub a.ref b.ref y.ref (fun u v => y.toBuf (f (a.ofBuf u) (b.ofBuf v))) a.dev b.dev y.dev
  | shape a y he hn => exact reshape_bufs_sub a.ref y.ref _ _ a.dev y.dev

theorem fresh_toOp (s : Step sig Val) : (s.toOp : HloOp τ sig Val).fresh = ∅ := by cases s <;> rfl

/-- A step that does not read what it writes: its equation holds right after it. -/
theorem holds_result (s : Step sig Val) (h : s.out ∉ s.ins) (V : Valuation τ sig Val) : s.Holds (s.toOp.result V) := by
  have key {T : BufTy} (y : TRef sig T) (hy : y.ref ∈ s.ins) : val (s.toOp.result V) y = val V y := by
    unfold val
    rw [HloOp.result_of_not_mem _ _ (by
      rw [writes_toOp, Finset.mem_singleton]; exact devRef_ne_of_ne fun e => h (e ▸ hy))]
  cases s with
  | nul y v =>
    show y.ofBuf ((nullary y.ref (y.toBuf v) y.dev : HloOp τ sig Val).result V (Proc.devRef .tc y.ref)) = v
    exact (congrArg y.ofBuf (nullary_result ..)).trans (TRef.ofBuf_toBuf y v)
  | un a y f =>
    show y.ofBuf ((unary a.ref y.ref (fun u => y.toBuf (f (a.ofBuf u))) a.dev y.dev : HloOp τ sig Val).result V
      (Proc.devRef .tc y.ref)) = f (val ((un a y f).toOp.result V) a)
    rw [key a (List.mem_singleton_self _)]
    refine (congrArg y.ofBuf (unary_result a.ref y.ref (fun u => y.toBuf (f (a.ofBuf u))) a.dev y.dev V)).trans ?_
    exact TRef.ofBuf_toBuf y _
  | bin a b y f =>
    show y.ofBuf ((binary a.ref b.ref y.ref (fun u v => y.toBuf (f (a.ofBuf u) (b.ofBuf v))) a.dev b.dev y.dev :
      HloOp τ sig Val).result V (Proc.devRef .tc y.ref)) = f (val ((bin a b y f).toOp.result V) a) (val ((bin a b y f).toOp.result V) b)
    rw [key a (List.mem_cons_self ..), key b (List.mem_cons_of_mem _ (List.mem_singleton_self _))]
    refine (congrArg y.ofBuf (binary_result a.ref b.ref y.ref (fun u v => y.toBuf (f (a.ofBuf u) (b.ofBuf v))) a.dev b.dev
      y.dev V)).trans ?_
    exact TRef.ofBuf_toBuf y _
  | shape a y he hn =>
    show y.ofBuf _ = _
    rw [key a (List.mem_singleton_self _)]
    obtain ⟨a, rfl, ha, ha'⟩ := a
    obtain ⟨y, rfl, hy, hy'⟩ := y
    exact reshape_result a y he hn ⟨ha, ha'⟩ ⟨hy, hy'⟩ V

/-- A step's equation is about its own buffers only. -/
theorem holds_congr (s : Step sig Val) {V V' : Valuation τ sig Val}
    (h : ∀ r ∈ s.out :: s.ins, V' (Proc.devRef .tc r) = V (Proc.devRef .tc r)) (hs : s.Holds V) : s.Holds V' := by
  have key {T : BufTy} (y : TRef sig T) (hy : y.ref ∈ s.out :: s.ins) : val V' y = val V y := congrArg y.ofBuf (h _ hy)
  cases s with
  | nul y v => exact (key y (by simp [out])).trans hs
  | un a y f => exact (key y (by simp [out])).trans (hs.trans (congrArg f (key a (by simp [ins])).symm))
  | bin a b y f =>
    exact (key y (by simp [out])).trans (hs.trans (congrArg₂ f (key a (by simp [ins])).symm (key b (by simp [ins])).symm))
  | shape a y he hn =>
    refine (key y (by simp [out])).trans (hs.trans ?_)
    rw [key a (by simp [ins])]

end Step

/-- Every result's index exceeds `lo`, the indices before it and those of the operands. -/
def ordered : Nat → List (Step sig Val) → Bool
  | _, [] => true
  | lo, s :: ss => Nat.blt lo s.out.idx.val && (s.ins.all fun r => Nat.blt r.idx.val s.out.idx.val) && ordered s.out.idx.val ss

theorem lt_of_ordered : ∀ (ss : List (Step sig Val)) (lo : Nat), ordered lo ss = true → ∀ s ∈ ss, lo < s.out.idx.val
  | [], _, _, _, h => nomatch h
  | s :: ss, lo, h, t, ht => by
    simp only [ordered, Bool.and_eq_true, Nat.blt_eq] at h
    rcases List.mem_cons.mp ht with rfl | ht
    · exact h.1.1
    · exact h.1.1.trans (lt_of_ordered ss _ h.2 t ht)

/-- After an ordered line every step's equation holds. -/
theorem holds_after : ∀ (ss : List (Step sig Val)) (lo : Nat), ordered lo ss = true → ∀ V : Valuation τ sig Val,
    ∀ s ∈ ss, s.Holds (after (ss.map Step.toOp) V)
  | [], _, _, _, _, h => nomatch h
  | s :: ss, lo, h, V, t, ht => by
    simp only [ordered, Bool.and_eq_true, Nat.blt_eq, List.all_eq_true] at h
    rcases List.mem_cons.mp ht with rfl | ht
    · have hne : t.out ∉ t.ins := fun hm => lt_irrefl _ (h.1.2 _ hm)
      refine t.holds_congr (fun r hr => ?_) (t.holds_result hne V)
      refine after_of_forall_not_mem (ss.map Step.toOp) (t.toOp.result V) fun op hop hb => ?_
      obtain ⟨u, hu, rfl⟩ := List.mem_map.mp hop
      rw [Step.writes_toOp, Finset.mem_singleton] at hb
      have e := Proc.devRef_injective _ hb
      have hlt := lt_of_ordered ss _ h.2 u hu
      rcases List.mem_cons.mp hr with rfl | hr
      · rw [e] at hlt; exact lt_irrefl _ hlt
      · have := h.1.2 r hr
        rw [e] at this; exact lt_asymm hlt this
    · exact holds_after ss _ h.2 _ t ht

/-- A buffer of index at most `lo` keeps its contents through an ordered line. -/
theorem kept_after (ss : List (Step sig Val)) {lo : Nat} (h : ordered lo ss = true) (V : Valuation τ sig Val)
    {r : Ref sig .tc} (hr : r.idx.val ≤ lo) : after (ss.map Step.toOp) V (Proc.devRef .tc r) = V (Proc.devRef .tc r) := by
  refine after_of_forall_not_mem _ _ fun op hop hb => ?_
  obtain ⟨u, hu, rfl⟩ := List.mem_map.mp hop
  rw [Step.writes_toOp, Finset.mem_singleton] at hb
  have hlt := lt_of_ordered ss _ h u hu
  rw [← Proc.devRef_injective _ hb] at hlt
  exact absurd hlt (not_lt.mpr hr)

end Cert.Steps

end
-- ==== Proof.RefSteps.lean ====
/-
  The reference program as a straight line of host operations: the key, the counters, the twenty rounds of
  the generator with their key injections, the words as floats in [0, 1), the stable sort of every row and
  the comparison with 768.
-/
module

public import proofs.«01_k».proof.Defs
public import proofs.«01_k».proof.Proof.Gen.ReferenceIdeal
public import proofs.«01_k».proof.Proof.Steps

@[expose] public section

set_option maxRecDepth 65536

noncomputable section

namespace Cert.RefSteps

open Idealize.ShloMosaic Idealize.ShloMosaic.StableHlo Cert.Steps Cert.Steps.Step Cert.ReferenceIdeal
open Cert.ReferenceIdeal.Facts₀ Idealize.SL.Sem

/-- A line of steps of the reference. -/
abbrev Line := List (Step sig (Elt Ideal))

/-- A reference to an array of 32-bit words, and to one word. -/
abbrev Words := TRef sig ⟨S256x1024, .i32⟩
@[inherit_doc Words] abbrev Word1 := TRef sig ⟨S_, .i32⟩

/-- A word spread over the array. -/
def spread (c : Word1) (b : Words) : Step sig (Elt Ideal) := un c b (broadcastInDim S256x1024 ![] bcast_S_S256x1024)

/-- One round on the halves `x0`, `x1`: rotation by `r` to the left, `s = 32 - r`. -/
def mixRound (x0 x1 y0 : Words) (c : Word1) (b u : Words) (c' : Word1) (b' u' o y1 : Words) (r s : Nat) : Line :=
  [bin x0 x1 y0 addi, nul c (constantI S_ 32 (BitVec.ofNat 32 r)), spread c b, bin x1 b u Host.shli,
    nul c' (constantI S_ 32 (BitVec.ofNat 32 s)), spread c' b', bin x1 b' u' Host.shrui, bin u u' o ori, bin y0 o y1 xori]

/-- One key injection: word `k` into the first half, word `l` and the number `i` into the second. -/
def injection (x0 x1 : Words) (k l : Word1) (b y0 b' z : Words) (c : Word1) (e y1 : Words) (i : Nat) : Line :=
  [spread k b, bin x0 b y0 addi, spread l b', bin x1 b' z addi, nul c (constantI S_ 32 (BitVec.ofNat 32 i)), spread c e,
    bin z e y1 addi]

/-- The key words and the counters before the first round. -/
def start (k l : Word1) (h n : Words) (φ : fn_threefry2x32.Bufs) : Line :=
  [bin k l φ.v0 xori, nul φ.c (constantI S_ 32 466688986#32), bin φ.v0 φ.c φ.v1 xori, spread k φ.v2, bin h φ.v2 φ.v3 addi,
    spread l φ.v4, bin n φ.v4 φ.v5 addi]

/-- The five groups of four rounds, each with its injection. -/
def group1 (l : Word1) (φ : fn_threefry2x32.Bufs) : Line :=
  mixRound φ.v3 φ.v5 φ.v6 φ.c_0 φ.v7 φ.v8 φ.c_1 φ.v9 φ.v10 φ.v11 φ.v12 13 19 ++
  mixRound φ.v6 φ.v12 φ.v13 φ.c_2 φ.v14 φ.v15 φ.c_3 φ.v16 φ.v17 φ.v18 φ.v19 15 17 ++
  mixRound φ.v13 φ.v19 φ.v20 φ.c_4 φ.v21 φ.v22 φ.c_5 φ.v23 φ.v24 φ.v25 φ.v26 26 6 ++
  mixRound φ.v20 φ.v26 φ.v27 φ.c_6 φ.v28 φ.v29 φ.c_7 φ.v30 φ.v31 φ.v32 φ.v33 6 26 ++
  injection φ.v27 φ.v33 l φ.v1 φ.v34 φ.v35 φ.v36 φ.v37 φ.c_8 φ.v38 φ.v39 1
@[inherit_doc group1] def group2 (k : Word1) (φ : fn_threefry2x32.Bufs) : Line :=
  mixRound φ.v35 φ.v39 φ.v40 φ.c_9 φ.v41 φ.v42 φ.c_10 φ.v43 φ.v44 φ.v45 φ.v46 17 15 ++
  mixRound φ.v40 φ.v46 φ.v47 φ.c_11 φ.v48 φ.v49 φ.c_12 φ.v50 φ.v51 φ.v52 φ.v53 29 3 ++
  mixRound φ.v47 φ.v53 φ.v54 φ.c_13 φ.v55 φ.v56 φ.c_14 φ.v57 φ.v58 φ.v59 φ.v60 16 16 ++
  mixRound φ.v54 φ.v60 φ.v61 φ.c_15 φ.v62 φ.v63 φ.c_16 φ.v64 φ.v65 φ.v66 φ.v67 24 8 ++
  injection φ.v61 φ.v67 φ.v1 k φ.v68 φ.v69 φ.v70 φ.v71 φ.c_17 φ.v72 φ.v73 2
@[inherit_doc group1] def group3 (k l : Word1) (φ : fn_threefry2x32.Bufs) : Line :=
  mixRound φ.v69 φ.v73 φ.v74 φ.c_18 φ.v75 φ.v76 φ.c_19 φ.v77 φ.v78 φ.v79 φ.v80 13 19 ++
  mixRound φ.v74 φ.v80 φ.v81 φ.c_20 φ.v82 φ.v83 φ.c_21 φ.v84 φ.v85 φ.v86 φ.v87 15 17 ++
  mixRound φ.v81 φ.v87 φ.v88 φ.c_22 φ.v89 φ.v90 φ.c_23 φ.v91 φ.v92 φ.v93 φ.v94 26 6 ++
  mixRound φ.v88 φ.v94 φ.v95 φ.c_24 φ.v96 φ.v97 φ.c_25 φ.v98 φ.v99 φ.v100 φ.v101 6 26 ++
  injection φ.v95 φ.v101 k l φ.v102 φ.v103 φ.v104 φ.v105 φ.c_26 φ.v106 φ.v107 3
@[inherit_doc group1] def group4 (l : Word1) (φ : fn_threefry2x32.Bufs) : Line :=
  mixRound φ.v103 φ.v107 φ.v108 φ.c_27 φ.v109 φ.v110 φ.c_28 φ.v111 φ.v112 φ.v113 φ.v114 17 15 ++
  mixRound φ.v108 φ.v114 φ.v115 φ.c_29 φ.v116 φ.v117 φ.c_30 φ.v118 φ.v119 φ.v120 φ.v121 29 3 ++
  mixRound φ.v115 φ.v121 φ.v122 φ.c_31 φ.v123 φ.v124 φ.c_32 φ.v125 φ.v126 φ.v127 φ.v128 16 16 ++
  mixRound φ.v122 φ.v128 φ.v129 φ.c_33 φ.v130 φ.v131 φ.c_34 φ.v132 φ.v133 φ.v134 φ.v135 24 8 ++
  injection φ.v129 φ.v135 l φ.v1 φ.v136 φ.v137 φ.v138 φ.v139 φ.c_35 φ.v140 φ.v141 4
@[inherit_doc group1] def group5 (k : Word1) (φ : fn_threefry2x32.Bufs) : Line :=
  mixRound φ.v137 φ.v141 φ.v142 φ.c_36 φ.v143 φ.v144 φ.c_37 φ.v145 φ.v146 φ.v147 φ.v148 13 19 ++
  mixRound φ.v142 φ.v148 φ.v149 φ.c_38 φ.v150 φ.v151 φ.c_39 φ.v152 φ.v153 φ.v154 φ.v155 15 17 ++
  mixRound φ.v149 φ.v155 φ.v156 φ.c_40 φ.v157 φ.v158 φ.c_41 φ.v159 φ.v160 φ.v161 φ.v162 26 6 ++
  mixRound φ.v156 φ.v162 φ.v163 φ.c_42 φ.v164 φ.v165 φ.c_43 φ.v166 φ.v167 φ.v168 φ.v169 6 26 ++
  injection φ.v163 φ.v169 φ.v1 k φ.v170 φ.v171 φ.v172 φ.v173 φ.c_44 φ.v174 φ.v175 5

/-- The generator's line. -/
def threefry (k l : Word1) (h n : Words) (φ : fn_threefry2x32.Bufs) : Line :=
  start k l h n φ ++ (group1 l φ ++ (group2 k φ ++ (group3 k l φ ++ (group4 l φ ++ group5 k φ))))

/-- The key: its two words side by side, and the bounds 0 and 1. -/
def keyLine : Line :=
  [nul (.of main_c) (constantI S_ 32 1#32), nul (.of main_c_0) (constantI S_ 32 32#32),
    bin (T := ⟨S_, .i32⟩) (A := ⟨S_, .i32⟩) (B := ⟨S_, .i32⟩) (.of main_c) (.of main_c_0) (.of main_v0) Host.shrui,
    un (A := ⟨S_, .i32⟩) (T := ⟨S_, .i32⟩) (.of main_v0) (.of main_v1) id,
    un (A := ⟨S_, .i32⟩) (T := ⟨S1, .i32⟩) (.of main_v1) (.of main_v2) (broadcastInDim S1 ![] bcast_S_S1),
    nul (.of main_c_1) (constantI S_ 32 4294967295#32),
    bin (T := ⟨S_, .i32⟩) (A := ⟨S_, .i32⟩) (B := ⟨S_, .i32⟩) (.of main_c) (.of main_c_1) (.of main_v3) andi,
    un (A := ⟨S_, .i32⟩) (T := ⟨S_, .i32⟩) (.of main_v3) (.of main_v4) id,
    un (A := ⟨S_, .i32⟩) (T := ⟨S1, .i32⟩) (.of main_v4) (.of main_v5) (broadcastInDim S1 ![] bcast_S_S1),
    bin (T := ⟨S2, .i32⟩) (A := ⟨S1, .i32⟩) (B := ⟨S1, .i32⟩) (.of main_v2) (.of main_v5) (.of main_v6)
      (fun a b => concatenate S2 0 [⟨S1, a⟩, ⟨S1, b⟩] concatenates_S1_S1_S2_d0),
    nul (T := ⟨S_, .f32⟩) (.of main_cst) (constant (F := Ideal) S_ .f32 0x00000000#32),
    nul (T := ⟨S_, .f32⟩) (.of main_cst_2) (constant (F := Ideal) S_ .f32 0x3F800000#32)]

/-- The counters: the bounds' copies, the key's two words, and the halves of `1024 * row + column`. -/
def counterLine (a : TRef sig ⟨S2, .i32⟩) (lo hi : TRef sig ⟨S_, .f32⟩) (φ : fn_uniform.Bufs) : Line :=
  [un lo φ.v0 id, un hi φ.v1 id, un φ.v0 φ.v2 (broadcastInDim S1x1 ![] bcast_S_S1x1),
    un φ.v1 φ.v3 (broadcastInDim S1x1 ![] bcast_S_S1x1),
    un a φ.v4 (extractStridedSlice S1 ![0] · slices_S2_S1_0), shape φ.v4 φ.v5 rfl shapeCasts_S1_S_,
    un a φ.v6 (extractStridedSlice S1 ![1] · slices_S2_S1_1), shape φ.v6 φ.v7 rfl shapeCasts_S1_S_,
    nul φ.v8 (iotaInDim S256x1024 64 0), nul φ.v9 (iotaInDim S256x1024 64 1), nul φ.c (constantI S_ 64 1024#64),
    un φ.c φ.v10 (broadcastInDim S256x1024 ![] bcast_S_S256x1024), bin φ.v10 φ.v8 φ.v11 muli, nul φ.c_0 (constantI S_ 64 1#64),
    un φ.c_0 φ.v12 (broadcastInDim S256x1024 ![] bcast_S_S256x1024), bin φ.v12 φ.v9 φ.v13 muli, bin φ.v11 φ.v13 φ.v14 addi,
    nul φ.c_1 (constantI S_ 64 32#64), un φ.c_1 φ.v15 (broadcastInDim S256x1024 ![] bcast_S_S256x1024),
    bin φ.v14 φ.v15 φ.v16 Host.shrui, un φ.v14 φ.v17 (trunci 32 · natLt_32_64), un φ.v16 φ.v18 (trunci 32 · natLt_32_64)]

/-- The words as floats between the bounds. -/
def floatLine (φ : fn_uniform.Bufs) : Line :=
  [bin φ.call0.v171 φ.call0.v175 φ.v20 xori, nul φ.c_2 (constantI S_ 32 9#32), spread φ.c_2 φ.v21, bin φ.v20 φ.v21 φ.v22 Host.shrui,
    nul φ.c_3 (constantI S_ 32 1065353216#32), spread φ.c_3 φ.v23, bin φ.v22 φ.v23 φ.v24 ori,
    un φ.v24 φ.v25 (bitcastToFloat (F := Ideal) .f32), nul φ.cst (constant (F := Ideal) S_ .f32 0x3F800000#32),
    un φ.cst φ.v26 (broadcastInDim S256x1024 ![] bcast_S_S256x1024), bin φ.v25 φ.v26 φ.v27 (subf (F := Ideal) (φ := .f32)), bin φ.v3 φ.v2 φ.v28 (subf (F := Ideal) (φ := .f32)),
    un φ.v28 φ.v29 (broadcastInDim S256x1024 ![0, 1] bcast_S1x1_S256x1024_0_1), bin φ.v27 φ.v29 φ.v30 (mulf (F := Ideal) (φ := .f32)),
    un φ.v2 φ.v31 (broadcastInDim S256x1024 ![0, 1] bcast_S1x1_S256x1024_0_1), bin φ.v30 φ.v31 φ.v32 (addf (F := Ideal) (φ := .f32)),
    un φ.v2 φ.v33 (broadcastInDim S256x1024 ![0, 1] bcast_S1x1_S256x1024_0_1), bin φ.v33 φ.v32 φ.v34 (maximumf (F := Ideal) (φ := .f32))]

/-- The sort of every row, and the comparison. -/
def sortLine : Line :=
  [nul main_call1.v0 (iotaInDim S256x1024 32 1),
    bin (A := ⟨S256x1024, .f32⟩) (.of main_v7) main_call1.v0 main_call1.v1_0 (fun x y => (Host.sort2 S256x1024 1 (comparator_f32_i32_d1 (F := Ideal)) x y).1),
    bin (A := ⟨S256x1024, .f32⟩) (.of main_v7) main_call1.v0 main_call1.v1_1 (fun x y => (Host.sort2 S256x1024 1 (comparator_f32_i32_d1 (F := Ideal)) x y).2),
    nul (.of main_c_3) (constantI S_ 32 768#32),
    un (A := ⟨S_, .i32⟩) (T := ⟨S256x1024, .i32⟩) (.of main_c_3) (.of main_v9) (broadcastInDim S256x1024 ![] bcast_S_S256x1024),
    bin (A := ⟨S256x1024, .i32⟩) (B := ⟨S256x1024, .i32⟩) (T := ⟨S256x1024, .i1⟩) (.of main_v8) (.of main_v9) (.of main_v10)
      (cmpi .slt)]

/-- The whole program. -/
def line : Line :=
  keyLine ++ (counterLine (.of main_v6) (.of main_cst) (.of main_cst_2) main_call0 ++
    (threefry main_call0.v5 main_call0.v7 main_call0.v18 main_call0.v17 main_call0.call0 ++ (floatLine main_call0 ++ sortLine)))

theorem line_ordered : ordered 0 line = true := by decide +kernel

/-- Two straight lines one after the other. -/
theorem isSeq_append {nD : Nat} {τ : Topo} {sig : RefSig} {Val : EltTy → Type} {Λ : Labels}
    {p q : Prog (TpuEff nD τ sig Val Λ .tc) PUnit} {l l' : List (HloOp τ sig Val)} (hp : IsSeq p l) (hq : IsSeq q l') :
    IsSeq (p >>= fun _ => q) (l ++ l') := by
  unfold IsSeq at *
  rw [seq_append, hp, hq]

/-- The generator's four parts are its line, sixty steps at a time. -/
theorem part0_isSeq (k l : Word1) (h n : Words) (φ : fn_threefry2x32.Bufs) :
    IsSeq (fn_threefry2x32.body_part0 (F := Ideal) k l h n φ) (((threefry k l h n φ).take 60).map Step.toOp) := by
  unfold fn_threefry2x32.body_part0
  iterate 60 refine IsSeq.cons ?_
  exact IsSeq.nil
@[inherit_doc part0_isSeq] theorem part1_isSeq (k l : Word1) (h n : Words) (φ : fn_threefry2x32.Bufs) :
    IsSeq (fn_threefry2x32.body_part1 (F := Ideal) k l h n φ) ((((threefry k l h n φ).drop 60).take 60).map Step.toOp) := by
  unfold fn_threefry2x32.body_part1
  iterate 60 refine IsSeq.cons ?_
  exact IsSeq.nil
@[inherit_doc part0_isSeq] theorem part2_isSeq (k l : Word1) (h n : Words) (φ : fn_threefry2x32.Bufs) :
    IsSeq (fn_threefry2x32.body_part2 (F := Ideal) k l h n φ)
      (((((threefry k l h n φ).drop 60).drop 60).take 60).map Step.toOp) := by
  unfold fn_threefry2x32.body_part2
  iterate 60 refine IsSeq.cons ?_
  exact IsSeq.nil
@[inherit_doc part0_isSeq] theorem part3_isSeq (k l : Word1) (h n : Words) (φ : fn_threefry2x32.Bufs) :
    IsSeq (fn_threefry2x32.body_part3 (F := Ideal) k l h n φ)
      (((((threefry k l h n φ).drop 60).drop 60).drop 60).map Step.toOp) := by
  unfold fn_threefry2x32.body_part3
  iterate 42 refine IsSeq.cons ?_
  exact IsSeq.nil

theorem threefry_isSeq (k l : Word1) (h n : Words) (φ : fn_threefry2x32.Bufs) :
    IsSeq (fn_threefry2x32.body (F := Ideal) k l h n φ) ((threefry k l h n φ).map Step.toOp) := by
  have e : ((threefry k l h n φ).map Step.toOp : List (HloOp τ sig (Elt Ideal)))
      = ((threefry k l h n φ).take 60).map Step.toOp ++ ((((threefry k l h n φ).drop 60).take 60).map Step.toOp ++
        (((((threefry k l h n φ).drop 60).drop 60).take 60).map Step.toOp ++
          ((((threefry k l h n φ).drop 60).drop 60).drop 60).map Step.toOp)) := by
    simp only [← List.map_append, List.take_append_drop]
  rw [e]
  exact isSeq_append (part0_isSeq k l h n φ) (isSeq_append (part1_isSeq k l h n φ) (isSeq_append (part2_isSeq k l h n φ)
    (part3_isSeq k l h n φ)))

/-- The program is its line. -/
theorem main_isSeq (d : Dev nD) : IsSeq (main (F := Ideal) d) (line.map Step.toOp) := by
  simp only [line, List.map_append]
  unfold main fn_uniform.body fn_argsort.body
  iterate 12 refine IsSeq.cons ?_
  simp only [bind_assoc, pure_bind]
  iterate 22 refine IsSeq.cons ?_
  refine isSeq_append
    (l := (threefry main_call0.v5 main_call0.v7 main_call0.v18 main_call0.v17 main_call0.call0).map Step.toOp)
    (l' := (floatLine main_call0 ++ sortLine).map Step.toOp) (threefry_isSeq _ _ _ _ _) ?_
  iterate 24 refine IsSeq.cons ?_
  exact IsSeq.nil

end Cert.RefSteps

end
-- ==== Proof.Threefry.lean ====
/-
  The counter-based generator both programs compute, on one 32-bit word: twenty rounds with five key
  injections for the key (0, 1), and the word `word n` of the counter `n`. The same generator on
  natural numbers, in a form that evaluates quickly, and the one numeric fact
  about the generated words the ranking needs: of the words of two neighbouring columns `2 q`, `2 q + 1`
  of one row's tail, the upper 23 bits differ.
-/
module

public import Idealize.ShloMosaic.PureOps
public import Mathlib.Tactic.Ring

@[expose] public section

set_option maxRecDepth 16384

namespace Cert.Threefry

/-- A word rotated left by `r` places. -/
def rot (r : Nat) (x : BitVec 32) : BitVec 32 := (x <<< r) ||| (x >>> (32 - r))

/-- One round: the first word is the sum, the second its exclusive or with the rotated second. -/
def mix (r : Nat) (s : BitVec 32 × BitVec 32) : BitVec 32 × BitVec 32 :=
  (s.1 + s.2, (s.1 + s.2) ^^^ rot r s.2)

/-- Four rounds in a row. -/
def mix4 (a b c d : Nat) (s : BitVec 32 × BitVec 32) : BitVec 32 × BitVec 32 :=
  mix d (mix c (mix b (mix a s)))

/-- A key injection: a word added to the first half, a word and the injection's number to the second. -/
def inject (k l i : BitVec 32) (s : BitVec 32 × BitVec 32) : BitVec 32 × BitVec 32 :=
  (s.1 + k, s.2 + l + i)

/-- The generator for key words `k`, `l` (`m` their third word) on a two-word counter. -/
def block (k l m : BitVec 32) (s : BitVec 32 × BitVec 32) : BitVec 32 × BitVec 32 :=
  inject m k 5#32 <| mix4 13 15 26 6 <| inject l m 4#32 <| mix4 17 29 16 24 <| inject k l 3#32 <|
  mix4 13 15 26 6 <| inject m k 2#32 <| mix4 17 29 16 24 <| inject l m 1#32 <| mix4 13 15 26 6
  (s.1 + k, s.2 + l)

/-- The third key word of the key (0, 1). -/
def third : BitVec 32 := (0#32 ^^^ 1#32) ^^^ 466688986#32

/-- The word generated at counter `n`: the exclusive or of the generator's two words. -/
def word (n : BitVec 32) : BitVec 32 :=
  (block 0#32 1#32 third (0#32, n)).1 ^^^ (block 0#32 1#32 third (0#32, n)).2

/-! ## The same on natural numbers -/

/-- `f` at `n`, with `n` evaluated first. -/
def force (n : Nat) (f : Nat → Bool) : Bool := Nat.rec (f 0) (fun k _ => f (Nat.succ k)) n

theorem force_eq (n : Nat) (f : Nat → Bool) : force n f = f n := by cases n <;> rfl

/-- `mix` on natural numbers, its two results passed on. -/
def mixN (r s : Nat) (k : Nat → Nat → Bool) (x y : Nat) : Bool :=
  force (Nat.mod (Nat.add x y) 4294967296) fun u =>
  force (Nat.xor u (Nat.lor (Nat.mod (Nat.shiftLeft y r) 4294967296) (Nat.shiftRight y s))) fun v => k u v

theorem mixN_eq {r s : Nat} (h : 32 - r = s) (k : Nat → Nat → Bool) (p : BitVec 32 × BitVec 32) :
    mixN r s k p.1.toNat p.2.toNat = k (mix r p).1.toNat (mix r p).2.toNat := by
  subst h
  simp only [mixN, force_eq, mix, rot, BitVec.toNat_xor, BitVec.toNat_add, BitVec.toNat_or, BitVec.toNat_shiftLeft,
    BitVec.toNat_ushiftRight]
  rfl

/-- `mix4` on natural numbers. -/
def mix4N (a a' b b' c c' d d' : Nat) (k : Nat → Nat → Bool) : Nat → Nat → Bool :=
  mixN a a' (mixN b b' (mixN c c' (mixN d d' k)))

theorem mix4N_eq {a a' b b' c c' d d' : Nat} (ha : 32 - a = a') (hb : 32 - b = b') (hc : 32 - c = c') (hd : 32 - d = d')
    (k : Nat → Nat → Bool) (p : BitVec 32 × BitVec 32) :
    mix4N a a' b b' c c' d d' k p.1.toNat p.2.toNat = k (mix4 a b c d p).1.toNat (mix4 a b c d p).2.toNat := by
  simp only [mix4N, mixN_eq ha, mixN_eq hb, mixN_eq hc, mixN_eq hd, mix4]

/-- `inject` on natural numbers. -/
def injectN (a b i : Nat) (k : Nat → Nat → Bool) (x y : Nat) : Bool :=
  force (Nat.mod (Nat.add x a) 4294967296) fun u =>
  force (Nat.mod (Nat.add (Nat.mod (Nat.add y b) 4294967296) i) 4294967296) fun v => k u v

theorem injectN_eq {a b i : Nat} {wa wb wi : BitVec 32} (ha : wa.toNat = a) (hb : wb.toNat = b) (hi : wi.toNat = i)
    (k : Nat → Nat → Bool) (p : BitVec 32 × BitVec 32) :
    injectN a b i k p.1.toNat p.2.toNat = k (inject wa wb wi p).1.toNat (inject wa wb wi p).2.toNat := by
  subst ha hb hi
  simp only [injectN, force_eq, inject, BitVec.toNat_add]
  rfl

/-- `word` on natural numbers. -/
def wordN (k : Nat → Bool) (n : Nat) : Bool :=
  mix4N 13 19 15 17 26 6 6 26 (injectN 1 466688987 1 (mix4N 17 15 29 3 16 16 24 8 (injectN 466688987 0 2
  (mix4N 13 19 15 17 26 6 6 26 (injectN 0 1 3 (mix4N 17 15 29 3 16 16 24 8 (injectN 1 466688987 4
  (mix4N 13 19 15 17 26 6 6 26 (injectN 466688987 0 5 fun x y => force (Nat.xor x y) k)))))))))
  0 (Nat.mod (Nat.add n 1) 4294967296)

theorem wordN_eq (k : Nat → Bool) (n : BitVec 32) : wordN k n.toNat = k (word n).toNat := by
  have h3 : third.toNat = 466688987 := by decide
  refine (mix4N_eq (a := 13) (b := 15) (c := 26) (d := 6) rfl rfl rfl rfl _ (0#32 + 0#32, n + 1#32)).trans ?_
  refine (injectN_eq (wa := 1#32) (wb := third) (wi := 1#32) rfl h3 rfl _ _).trans ?_
  refine (mix4N_eq (a := 17) (b := 29) (c := 16) (d := 24) rfl rfl rfl rfl _ _).trans ?_
  refine (injectN_eq (wa := third) (wb := 0#32) (wi := 2#32) h3 rfl rfl _ _).trans ?_
  refine (mix4N_eq (a := 13) (b := 15) (c := 26) (d := 6) rfl rfl rfl rfl _ _).trans ?_
  refine (injectN_eq (wa := 0#32) (wb := 1#32) (wi := 3#32) rfl rfl rfl _ _).trans ?_
  refine (mix4N_eq (a := 17) (b := 29) (c := 16) (d := 24) rfl rfl rfl rfl _ _).trans ?_
  refine (injectN_eq (wa := 1#32) (wb := third) (wi := 4#32) rfl h3 rfl _ _).trans ?_
  refine (mix4N_eq (a := 13) (b := 15) (c := 26) (d := 6) rfl rfl rfl rfl _ _).trans ?_
  refine (injectN_eq (wa := third) (wb := 0#32) (wi := 5#32) h3 rfl rfl _ _).trans ?_
  rw [force_eq, word, BitVec.toNat_xor]
  rfl

/-- Whether the upper 23 bits of the words of counters `n`, `n + 1` differ. -/
def apart (n : Nat) : Bool :=
  force n fun n => wordN (fun u => wordN (fun v => !Nat.beq (Nat.shiftRight u 9) (Nat.shiftRight v 9)) (Nat.add n 1)) n

theorem apart_eq (n : Nat) (h : n + 1 < 4294967296) :
    apart n = !Nat.beq ((word (BitVec.ofNat 32 n)).toNat >>> 9) ((word (BitVec.ofNat 32 (n + 1))).toNat >>> 9) := by
  have e : (BitVec.ofNat 32 n).toNat = n := by rw [BitVec.toNat_ofNat]; omega
  have e' : (BitVec.ofNat 32 (n + 1)).toNat = n + 1 := by rw [BitVec.toNat_ofNat]; omega
  rw [apart, force_eq]
  have h1 := wordN_eq (fun u => wordN (fun v => !Nat.beq (Nat.shiftRight u 9) (Nat.shiftRight v 9)) (Nat.add n 1))
    (BitVec.ofNat 32 n)
  rw [e] at h1
  rw [h1]
  have h2 := wordN_eq (fun v => !Nat.beq (Nat.shiftRight (word (BitVec.ofNat 32 n)).toNat 9) (Nat.shiftRight v 9))
    (BitVec.ofNat 32 (n + 1))
  rw [e'] at h2
  exact h2

/-- `f` holds at the `2 ^ k` numbers from `b` on. -/
def allN (f : Nat → Bool) : Nat → Nat → Bool
  | 0, b => f b
  | k + 1, b => and (allN f k b) (allN f k (Nat.add b (Nat.pow 2 k)))

theorem allN_spec (f : Nat → Bool) : ∀ (k b : Nat), allN f k b = true → ∀ m, b ≤ m → m < b + 2 ^ k → f m = true
  | 0, b, h, m, h1, h2 => by
    have : m = b := by rw [pow_zero] at h2; omega
    exact this ▸ h
  | k + 1, b, h, m, h1, h2 => by
    rw [allN, Bool.and_eq_true] at h
    have hp : 2 ^ (k + 1) = 2 ^ k + 2 ^ k := by rw [pow_succ]; ring
    by_cases hm : m < b + 2 ^ k
    · exact allN_spec f k b h.1 m h1 hm
    · exact allN_spec f k (b + 2 ^ k) h.2 m (by omega) (by omega)

/-- The counter of the first column of pair `m % 128` of row `m / 128`'s tail. -/
def pairAt (m : Nat) : Nat :=
  Nat.add (Nat.mul (Nat.div m 128) 1024) (Nat.add 768 (Nat.mul 2 (Nat.mod m 128)))

end Cert.Threefry

end
-- ==== Proof.RefRun.lean ====
/-
  The reference program's run: what its line of operations leaves, buffer by buffer, and the run's frame.
-/
module

public import proofs.«01_k».proof.Proof.RefSteps
public import proofs.«01_k».proof.Proof.Threefry
public import Idealize.ShloMosaic.Lib.Quiescent

@[expose] public section

set_option maxRecDepth 16384

noncomputable section

namespace Cert.RefRun

open Idealize.ShloMosaic Idealize.ShloMosaic.StableHlo Cert.Steps Cert.Steps.Step Cert.ReferenceIdeal Cert.RefSteps Cert.Threefry
open Cert.ReferenceIdeal.Facts₀ Idealize.SL.Sem

variable {V : Valuation τ sig (Elt Ideal)}

/-- A shift by a constant smaller than the width, on each unit. -/
theorem shli_lit (u : ArithUnit) (x : BitVec 32) {r : Nat} (h : r < 32) : IntOp.shli u x (BitVec.ofNat 32 r) = x <<< r := by
  have e : (BitVec.ofNat 32 r).toNat = r := by rw [BitVec.toNat_ofNat]; omega
  rw [IntOp.shli, if_pos (by omega), BitVec.shiftLeft_eq', e]
@[inherit_doc shli_lit] theorem shrui_lit (u : ArithUnit) (x : BitVec 32) {r : Nat} (h : r < 32) :
    IntOp.shrui u x (BitVec.ofNat 32 r) = x >>> r := by
  have e : (BitVec.ofNat 32 r).toNat = r := by rw [BitVec.toNat_ofNat]; omega
  rw [IntOp.shrui, if_pos (by omega), BitVec.ushiftRight_eq', e]

/-- The two words held at `a` and `b` at an index. -/
def pr (V : Valuation τ sig (Elt Ideal)) (a b : Words) (i : S256x1024.Idx) : BitVec 32 × BitVec 32 := (val V a i, val V b i)

theorem round_val {x0 x1 y0 b u b' u' o y1 : Words} {c c' : Word1} {r s : Nat} (hr : r < 32) (hs : s < 32) (hrs : 32 - r = s)
    (h : ∀ t ∈ mixRound x0 x1 y0 c b u c' b' u' o y1 r s, t.Holds V) (i : S256x1024.Idx) :
    pr V y0 y1 i = mix r (pr V x0 x1 i) := by
  simp only [mixRound, spread, List.forall_mem_cons, Holds] at h
  obtain ⟨e1, e2, e3, e4, e5, e6, e7, e8, e9, -⟩ := h
  rw [pr, e9, e8, e7, e6, e5, e4, e3, e2, e1]
  show (val V x0 i + val V x1 i, (val V x0 i + val V x1 i) ^^^ (IntOp.shli .host (val V x1 i) (BitVec.ofNat 32 r)
    ||| IntOp.shrui .host (val V x1 i) (BitVec.ofNat 32 s))) = _
  rw [shli_lit _ _ hr, shrui_lit _ _ hs, mix, rot, hrs]
  rfl

theorem injection_val {x0 x1 b y0 b' z e y1 : Words} {k l c : Word1} {n : Nat} {wk wl : BitVec 32}
    (hk : val V k = fun _ => wk) (hl : val V l = fun _ => wl)
    (h : ∀ t ∈ injection x0 x1 k l b y0 b' z c e y1 n, t.Holds V) (i : S256x1024.Idx) :
    pr V y0 y1 i = inject wk wl (BitVec.ofNat 32 n) (pr V x0 x1 i) := by
  simp only [injection, spread, List.forall_mem_cons, Holds] at h
  obtain ⟨e1, e2, e3, e4, e5, e6, e7, -⟩ := h
  rw [pr, e7, e6, e5, e4, e3, e2, e1, hk, hl]
  rfl

/-- The generator's line leaves the generator's two words, on each counter. -/
theorem threefry_val {k l : Word1} {h n : Words} {φ : fn_threefry2x32.Bufs} {wk wl : BitVec 32}
    (hk : val V k = fun _ => wk) (hl : val V l = fun _ => wl)
    (H : ∀ t ∈ threefry k l h n φ, t.Holds V) (i : S256x1024.Idx) :
    pr V φ.v171 φ.v175 i = block wk wl ((wk ^^^ wl) ^^^ 466688986#32) (pr V h n i) := by
  simp only [threefry, group1, group2, group3, group4, group5, List.forall_mem_append] at H
  obtain ⟨H0, ⟨⟨⟨⟨a1, a2⟩, a3⟩, a4⟩, a5⟩, ⟨⟨⟨⟨b1, b2⟩, b3⟩, b4⟩, b5⟩, ⟨⟨⟨⟨c1, c2⟩, c3⟩, c4⟩, c5⟩, ⟨⟨⟨⟨d1, d2⟩, d3⟩, d4⟩, d5⟩,
    ⟨⟨⟨f1, f2⟩, f3⟩, f4⟩, f5⟩ := H
  simp only [start, spread, List.forall_mem_cons, Holds] at H0
  obtain ⟨e1, e2, e3, e4, e5, e6, e7, -⟩ := H0
  have hm : val V φ.v1 = fun _ => (wk ^^^ wl) ^^^ 466688986#32 := by
    rw [e3, e2, e1, hk, hl]; rfl
  have e0 : pr V φ.v3 φ.v5 i = ((pr V h n i).1 + wk, (pr V h n i).2 + wl) := by
    rw [pr, e7, e6, e5, e4, hk, hl]; rfl
  rw [injection_val hm hk f5 i, round_val (by decide) (by decide) rfl f4 i, round_val (by decide) (by decide) rfl f3 i,
    round_val (by decide) (by decide) rfl f2 i, round_val (by decide) (by decide) rfl f1 i,
    injection_val hl hm d5 i, round_val (by decide) (by decide) rfl d4 i, round_val (by decide) (by decide) rfl d3 i,
    round_val (by decide) (by decide) rfl d2 i, round_val (by decide) (by decide) rfl d1 i,
    injection_val hk hl c5 i, round_val (by decide) (by decide) rfl c4 i, round_val (by decide) (by decide) rfl c3 i,
    round_val (by decide) (by decide) rfl c2 i, round_val (by decide) (by decide) rfl c1 i,
    injection_val hm hk b5 i, round_val (by decide) (by decide) rfl b4 i, round_val (by decide) (by decide) rfl b3 i,
    round_val (by decide) (by decide) rfl b2 i, round_val (by decide) (by decide) rfl b1 i,
    injection_val hl hm a5 i, round_val (by decide) (by decide) rfl a4 i, round_val (by decide) (by decide) rfl a3 i,
    round_val (by decide) (by decide) rfl a2 i, round_val (by decide) (by decide) rfl a1 i, e0]
  rfl

/-- The key line leaves the words 0 and 1. -/
theorem key_val (H : ∀ t ∈ keyLine, t.Holds V) :
    val V (.of main_v6 : TRef sig ⟨S2, .i32⟩) = (fun j => BitVec.ofNat 32 (j 0).val) ∧
      val V (.of main_cst : TRef sig ⟨S_, .f32⟩) = constant (F := Ideal) S_ .f32 0x00000000#32 ∧
      val V (.of main_cst_2 : TRef sig ⟨S_, .f32⟩) = constant (F := Ideal) S_ .f32 0x3F800000#32 := by
  simp only [keyLine, List.forall_mem_cons, Holds] at H
  obtain ⟨e1, e2, e3, e4, e5, e6, e7, e8, e9, e10, e11, e12, -⟩ := H
  refine ⟨?_, e11, e12⟩
  have hc : val V (.of main_c : TRef sig ⟨S_, .i32⟩) = constantI S_ 32 1#32 := e1
  have hc0 : val V (.of main_c_0 : TRef sig ⟨S_, .i32⟩) = constantI S_ 32 32#32 := e2
  have hc1 : val V (.of main_c_1 : TRef sig ⟨S_, .i32⟩) = constantI S_ 32 4294967295#32 := e6
  rw [e10, e9, e8, e7, e5, e4, e3, hc, hc0, hc1]
  funext j
  have hj : ∀ q : Fin 2, concatenate S2 0
      [⟨S1, broadcastInDim S1 ![] bcast_S_S1 (id (Host.shrui (constantI S_ 32 1#32) (constantI S_ 32 32#32)))⟩,
      ⟨S1, broadcastInDim S1 ![] bcast_S_S1 (id (andi (constantI S_ 32 1#32) (constantI S_ 32 4294967295#32)))⟩]
      concatenates_S1_S1_S2_d0 (fun a => match a with | 0 => q) = BitVec.ofNat 32 q.val := by decide
  have e : j = fun a => match a with | 0 => j 0 := by funext a; fin_cases a; rfl
  exact (congrArg _ e).trans (hj (j 0))

/-- An element's counter: its row-major position. -/
def cnt (i : S256x1024.Idx) : BitVec 32 := BitVec.ofNat 32 (1024 * (i 0).val + (i 1).val)

/-- The counter line: the two key words, the counters' halves (0 and the position), and the bounds. -/
theorem counter_val {a : TRef sig ⟨S2, .i32⟩} {lo hi : TRef sig ⟨S_, .f32⟩} {φ : fn_uniform.Bufs}
    (ha : val V a = fun j => BitVec.ofNat 32 (j 0).val) (hlo : val V lo = constant (F := Ideal) S_ .f32 0x00000000#32)
    (hhi : val V hi = constant (F := Ideal) S_ .f32 0x3F800000#32) (H : ∀ t ∈ counterLine a lo hi φ, t.Holds V) :
    (val V φ.v5 = fun _ => 0#32) ∧ (val V φ.v7 = fun _ => 1#32) ∧ (∀ i, pr V φ.v18 φ.v17 i = (0#32, cnt i)) ∧
      (val V φ.v2 = constant (F := Ideal) S1x1 .f32 0x00000000#32) ∧
      (val V φ.v3 = constant (F := Ideal) S1x1 .f32 0x3F800000#32) := by
  simp only [counterLine, List.forall_mem_cons, Holds] at H
  obtain ⟨e1, e2, e3, e4, e5, e6, e7, e8, e9, e10, e11, e12, e13, e14, e15, e16, e17, e18, e19, e20, e21, e22, -⟩ := H
  refine ⟨?_, ?_, fun i => ?_, ?_, ?_⟩
  · rw [e6, e5, ha]
    funext j
    show BitVec.ofNat 32 (0 + (Shape.reshapeEquiv shapeCasts_S1_S_ j 0).val) = _
    rw [Nat.lt_one_iff.mp (Shape.reshapeEquiv shapeCasts_S1_S_ j 0).isLt]
  · rw [e8, e7, ha]
    funext j
    show BitVec.ofNat 32 (1 + (Shape.reshapeEquiv shapeCasts_S1_S_ j 0).val) = _
    rw [Nat.lt_one_iff.mp (Shape.reshapeEquiv shapeCasts_S1_S_ j 0).isLt]
  · have e14' : val V φ.v14 i = BitVec.ofNat 64 (1024 * (i 0).val + (i 1).val) := by
      rw [e17, e16, e15, e14, e13, e12, e11, e10, e9]
      show 1024#64 * BitVec.ofNat 64 (i 0).val + 1#64 * BitVec.ofNat 64 (i 1).val = _
      rw [BitVec.one_mul, BitVec.ofNat_add, BitVec.ofNat_mul]
    have h0 : (i 0).val < 256 := (i 0).isLt
    have h1 : (i 1).val < 1024 := (i 1).isLt
    have e18' : val V φ.v18 i = 0#32 := by
      rw [e22, e20, e19, e18]
      show (IntOp.shrui .host (val V φ.v14 i) 32#64).setWidth 32 = _
      rw [e14', IntOp.shrui, if_pos (by decide)]
      apply BitVec.eq_of_toNat_eq
      rw [BitVec.toNat_setWidth, BitVec.ushiftRight_eq', BitVec.toNat_ushiftRight, BitVec.toNat_ofNat, Nat.shiftRight_eq_div_pow]
      show _ / 2 ^ 32 % 2 ^ 32 = 0
      omega
    have e17' : val V φ.v17 i = cnt i := by
      rw [e21]
      show (val V φ.v14 i).setWidth 32 = _
      rw [e14', cnt]
      apply BitVec.eq_of_toNat_eq
      rw [BitVec.toNat_setWidth, BitVec.toNat_ofNat, BitVec.toNat_ofNat]
      omega
    rw [pr, e18', e17']
  · rw [e3, e1, hlo]; rfl
  · rw [e4, e2, hhi]; rfl

/-- A generated word as a float between 0 and 1: its upper 23 bits as the fraction of a number in [1, 2), less 1. -/
def flt (w : BitVec 32) : Ideal .f32 :=
  let z : Ideal .f32 := FloatOps.ofBits .f32 0x00000000#32
  let o : Ideal .f32 := FloatOps.ofBits .f32 0x3F800000#32
  FloatOps.maximumf z (FloatOps.addf (FloatOps.mulf (FloatOps.subf (FloatOps.ofBits .f32 ((w >>> 9) ||| 1065353216#32)) o)
    (FloatOps.subf o z)) z)

theorem float_val {φ : fn_uniform.Bufs} (h2 : val V φ.v2 = constant (F := Ideal) S1x1 .f32 0x00000000#32)
    (h3 : val V φ.v3 = constant (F := Ideal) S1x1 .f32 0x3F800000#32) (H : ∀ t ∈ floatLine φ, t.Holds V)
    {i : S256x1024.Idx} {w : BitVec 32} (hw : val V φ.call0.v171 i ^^^ val V φ.call0.v175 i = w) : val V φ.v34 i = flt w := by
  simp only [floatLine, spread, List.forall_mem_cons, Holds] at H
  obtain ⟨e1, e2, e3, e4, e5, e6, e7, e8, e9, e10, e11, e12, e13, e14, e15, e16, e17, e18, -⟩ := H
  have e4' : val V φ.v22 i = w >>> 9 := by
    rw [e4, e3, e2, e1, ← hw]
    exact shrui_lit _ _ (by decide)
  have e7' : val V φ.v24 i = (w >>> 9) ||| 1065353216#32 := by
    rw [e7, e6, e5]
    show val V φ.v22 i ||| _ = _
    rw [e4']; rfl
  rw [e18, e17, e16, e15, e14, e13, e12, e11, e10, e9, e8, h2, h3, flt, ← e7']
  rfl

/-- The floats the reference sorts. -/
def noise : FVec Ideal S256x1024 .f32 := fun i => flt (word (cnt i))

/-- The reference's result. -/
def result : IVec S256x1024 1 := fun i =>
  IntOp.cmpi .slt ((Host.sort2 S256x1024 1 (comparator_f32_i32_d1 (F := Ideal)) noise (iotaInDim S256x1024 32 1)).2 i) 768#32

theorem line_val (H : ∀ t ∈ line, t.Holds V) : val V (.of main_v10 : TRef sig ⟨S256x1024, .i1⟩) = result := by
  simp only [line, List.forall_mem_append] at H
  obtain ⟨H1, H2, H3, H4, H5⟩ := H
  obtain ⟨k1, k2, k3⟩ := key_val H1
  obtain ⟨c1, c2, c3, c4, c5⟩ := counter_val k1 k2 k3 H2
  have hn : val V (.of main_v7 : TRef sig ⟨S256x1024, .f32⟩) = noise := by
    funext i
    refine float_val c4 c5 H4 ?_
    have ht := threefry_val c1 c2 H3 i
    rw [c3] at ht
    rw [word, third, ← ht]
    rfl
  simp only [sortLine, List.forall_mem_cons, Holds] at H5
  obtain ⟨e1, e2, e3, e4, e5, e6, -⟩ := H5
  have e3' : val V (.of main_v8 : TRef sig ⟨S256x1024, .i32⟩) = _ := e3
  rw [e6, e5, e4, e3', e1, hn]
  rfl

/-- The run: it terminates, the result is the stable sort's positions below 768, the argument and every counter are as at
    the start. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v10) = result ∧
        r.2.mem ((c.tc : Thread nD τ).loc main_arg0) = m ((c.tc : Thread nD τ).loc main_arg0)) := by
  refine θ_run_mono (run_hlo defs main main_isSeq (by decide) (by decide) ?_ ?_ m g) fun r h c => ⟨?_, ?_⟩
  · rw [List.forall_iff_forall_mem]
    intro op hop
    obtain ⟨t, -, rfl⟩ := List.mem_map.mp hop
    exact t.bufs_toOp
  · intro op hop
    obtain ⟨t, -, rfl⟩ := List.mem_map.mp hop
    exact t.fresh_toOp
  · exact (h c main_v10).trans (line_val (holds_after line 0 line_ordered _))
  · exact (h c main_arg0).trans (kept_after line line_ordered _ (le_refl 0))

theorem frame : Cert.quiescent_ReferenceIdeal := fun m g _ =>
  θ_run_mono (run m g) fun r h => ⟨fun c => (h c).2, sem_eq_zero_of_no_sems rfl _⟩

end Cert.RefRun

end
-- ==== Proof.Keys.lean ====
/-
  The keys of one grid step: the generator's word at the element's number, its lowest nine bits replaced by the
  number of the element's pair within the row, and the sign flipped.
-/
module

public import proofs.«01_k».proof.Proof.RefRun
public import proofs.«01_k».proof.Proof.Rows
public import proofs.«01_k».proof.Proof.Threefry
public import Idealize.ShloMosaic.Lib.Pipeline.ValueKit

@[expose] public section

set_option maxRecDepth 16384

noncomputable section

namespace Cert.Keys

open Idealize.ShloMosaic Cert.Rows Cert.KernelIdeal Cert.KernelIdeal.Gen Cert.Threefry Cert.RefRun

/-- A vector of words. -/
abbrev W := IVec S64x1024 32

/-- One round of the generator on vectors. -/
def vmix (r : ℕ) (p : W × W) : W × W :=
  (addi p.1 p.2, xori (addi p.1 p.2) (ori (shli p.2 (broadcast S64x1024 (BitVec.ofNat 32 r)))
    (shrui p.2 (broadcast S64x1024 (BitVec.ofNat 32 (32 - r))))))

/-- A key injection on vectors. -/
def vinject (k l n : BitVec 32) (p : W × W) : W × W :=
  (addi p.1 (broadcast S64x1024 k), addi (addi p.2 (broadcast S64x1024 l)) (broadcast S64x1024 n))

/-- Both vectors' words at one index. -/
def at₂ (p : W × W) (j : S64x1024.Idx) : BitVec 32 × BitVec 32 := (p.1 j, p.2 j)

theorem vmix_at {r : ℕ} (h : r < 32) (h' : 32 - r < 32) (p : W × W) (j : S64x1024.Idx) : at₂ (vmix r p) j = mix r (at₂ p j) := by
  show (p.1 j + p.2 j, (p.1 j + p.2 j) ^^^ (IntOp.shli .vector (p.2 j) (BitVec.ofNat 32 r) |||
    IntOp.shrui .vector (p.2 j) (BitVec.ofNat 32 (32 - r)))) = _
  rw [shli_lit _ _ h, shrui_lit _ _ h']
  rfl

theorem vinject_at (k l n : BitVec 32) (p : W × W) (j : S64x1024.Idx) : at₂ (vinject k l n p) j = inject k l n (at₂ p j) := rfl

/-- The element's number, in the whole array. -/
theorem count_at (i : grid0.Coords) (j : S64x1024.Idx) :
    k0_pay2 i j = BitVec.ofNat 32 (1024 * (64 * (i 0).val + (j 0).val) + (j 1).val) + 1#32 := by
  pointwise [k0_pay2]
  show BitVec.ofNat 32 (i 0).val * BitVec.ofNat 32 65536 + BitVec.ofNat 32 (j 0).val * BitVec.ofNat 32 1024 +
    BitVec.ofNat 32 (j 1).val + 1#32 = _
  rw [← BitVec.ofNat_mul, ← BitVec.ofNat_mul, ← BitVec.ofNat_add, ← BitVec.ofNat_add]
  congr 2
  omega

/-- The first four rounds. -/
theorem stage1 (i : grid0.Coords) : (k0_pay9 i, k0_pay10 i) =
    vmix 6 (vmix 26 (vmix 15 (vmix 13 (addi (broadcast S64x1024 0#32) (broadcast S64x1024 0#32), k0_pay2 i)))) := rfl

/-- The first injection to the third group's first round. -/
theorem stage2 (c : BitVec 32) (a b : W) : (k0_pay20 c a b, k0_pay22 (k0_pay20 c a b) (k0_pay21 c a b)) =
    vmix 13 (vinject c 0#32 2#32 (vmix 24 (vmix 16 (vmix 29 (vmix 17 (vinject 1#32 c 1#32 (a, b))))))) := rfl

/-- On to the fourth group's third round. -/
theorem stage3 (a b : W) : (k0_pay33 a b, k0_pay35 (k0_pay32 a b) (k0_pay33 a b) (k0_pay34 a b) 16#32) =
    vmix 16 (vmix 29 (vmix 17 (vinject 0#32 1#32 3#32 (vmix 6 (vmix 26 (vmix 15 (a, k0_pay22 a b))))))) := rfl

/-- On to the end. -/
theorem stage4 (c : BitVec 32) (x y z : W) :
    (k0_pay46 c x y z 16#32, addi (addi (k0_pay45 c x y z 16#32) (broadcast S64x1024 0#32)) (broadcast S64x1024 5#32)) =
    vinject c 0#32 5#32 (vmix 6 (vmix 26 (vmix 15 (vmix 13 (vinject 1#32 c 4#32 (vmix 24 (y, k0_pay35 x y z 16#32))))))) := rfl

/-- The generator's start, at an index. -/
theorem start_at (i : grid0.Coords) (j : S64x1024.Idx) :
    at₂ (addi (broadcast S64x1024 0#32) (broadcast S64x1024 0#32), k0_pay2 i) j =
    (0#32 + 0#32, BitVec.ofNat 32 (1024 * (64 * (i 0).val + (j 0).val) + (j 1).val) + 1#32) :=
  congrArg (Prod.mk _) (count_at i j)

/-- The end's pair of words at an index, from the pair after the first four rounds there. -/
theorem rest_at (x y : W) (j : S64x1024.Idx) :
    let a := k0_pay20 third x y
    let b := k0_pay21 third x y
    at₂ (k0_pay46 third (k0_pay32 a b) (k0_pay33 a b) (k0_pay34 a b) 16#32,
      addi (addi (k0_pay45 third (k0_pay32 a b) (k0_pay33 a b) (k0_pay34 a b) 16#32) (broadcast S64x1024 0#32)) (broadcast S64x1024 5#32)) j =
    (inject third 0#32 5#32 <| mix4 13 15 26 6 <| inject 1#32 third 4#32 <| mix4 17 29 16 24 <| inject 0#32 1#32 3#32 <|
      mix4 13 15 26 6 <| inject third 0#32 2#32 <| mix4 17 29 16 24 <| inject 1#32 third 1#32 <| at₂ (x, y) j) := by
  intro a b
  rw [stage4, vinject_at, vmix_at (by decide) (by decide), vmix_at (by decide) (by decide), vmix_at (by decide) (by decide),
    vmix_at (by decide) (by decide), vinject_at, vmix_at (by decide) (by decide), stage3, vmix_at (by decide) (by decide),
    vmix_at (by decide) (by decide), vmix_at (by decide) (by decide), vinject_at, vmix_at (by decide) (by decide),
    vmix_at (by decide) (by decide), vmix_at (by decide) (by decide), stage2, vmix_at (by decide) (by decide), vinject_at,
    vmix_at (by decide) (by decide), vmix_at (by decide) (by decide), vmix_at (by decide) (by decide),
    vmix_at (by decide) (by decide), vinject_at]
  rfl

/-- A sort key, from the generator's word and the column. -/
def key (w j : BitVec 32) : BitVec 32 := ((w &&& 4294966784#32) ||| (j >>> 1)) ^^^ 2147483648#32

/-- The last step, from the end's pair of words. -/
theorem pay47_at (v x y : W) (j : S64x1024.Idx) : k0_pay47 v x y 0#32 j =
    key ((at₂ (y, addi (addi x (broadcast S64x1024 0#32)) (broadcast S64x1024 5#32)) j).1 ^^^
      (at₂ (y, addi (addi x (broadcast S64x1024 0#32)) (broadcast S64x1024 5#32)) j).2) (v j) := by
  show (((y j ^^^ (x j + 0#32 + 5#32)) &&& 4294966784#32) ||| IntOp.shrui .vector (v j) (BitVec.ofNat 32 1)) ^^^ 2147483648#32 = _
  rw [shrui_lit _ _ (by decide)]
  rfl

/-- The keys are the generator's words at the elements' numbers. -/
theorem keys_at (i : grid0.Coords) (j : S64x1024.Idx) :
    keys i j = key (word (BitVec.ofNat 32 (1024 * (64 * (i 0).val + (j 0).val) + (j 1).val))) (BitVec.ofNat 32 (j 1).val) := by
  have hc : Scalar.xori (Scalar.xori 466688986#32 0#32) 1#32 = third := by decide
  have hj : iota .tc S64x1024 32 [1] iota_S64x1024_d1_w32 j = BitVec.ofNat 32 (j 1).val := by pointwise
  rw [keys, hc]
  dsimp only
  rw [pay47_at, rest_at, hj, stage1, vmix_at (by decide) (by decide), vmix_at (by decide) (by decide),
    vmix_at (by decide) (by decide), vmix_at (by decide) (by decide), start_at]
  rfl

end Cert.Keys
-- ==== Proof.Tally.lean ====
/-
  What a row's store holds over the extended reals: it is zero at `(a, b)` exactly where no one of the last 256 keys of
  the row has `32 * a + b` keys below it.
-/
module

public import proofs.«01_k».proof.Proof.Rows
public import Idealize.ShloMosaic.Lib.Pipeline.ValueKit

@[expose] public section

set_option maxRecDepth 16384

noncomputable section

namespace Cert.Tally

open Idealize.ShloMosaic Cert.Rows Cert.KernelIdeal Cert.KernelIdeal.Gen

/-- A bit that is one. -/
theorem bit_iff (p : Bool) : BitVec.ofBool p = 1#1 ↔ p = true := by cases p <;> decide

/-- A bit as a float. -/
theorem bit_val (b : BitVec 1) : (FloatOps.sitofp FTy.f32 (BitVec.setWidth 32 b) : Ideal .f32) = if b = 1#1 then (1 : EReal) else 0 := by
  show (((BitVec.setWidth 32 b).toInt : ℝ) : EReal) = _
  rcases BitVec.eq_zero_or_eq_one b with rfl | rfl
  · rw [if_neg (by decide), show (BitVec.setWidth 32 0#1).toInt = 0 from by decide]; simp
  · rw [if_pos rfl, show (BitVec.setWidth 32 1#1).toInt = 1 from by decide]; simp

/-- A whole number below `2 ^ 31`, rounded to a word. -/
theorem word_of_count {n : ℕ} (h : n < 2 ^ 31) : Ideal.fptosi 32 (n : EReal) = BitVec.ofNat 32 n := by
  have e : ((n : ℕ) : EReal) = (((n : ℕ) : ℝ) : EReal) := by simp
  rw [Ideal.fptosi, e, Ideal.toIntClamped_coe, if_pos (Nat.cast_nonneg n), Int.floor_natCast, min_eq_right (by push_cast; omega),
    max_eq_right (by push_cast; omega)]
  exact BitVec.ofInt_natCast 32 n

/-- How many keys of row `r` are below its key in column `p`. -/
def lower (K : IVec S64x1024 32) (r : Fin 64) (p : Fin 1024) : ℕ :=
  (Finset.univ.filter fun j : Fin 1024 => (K (ix2 r j)).slt (K (ix2 r p)) = true).card

theorem lower_le (K : IVec S64x1024 32) (r : Fin 64) (p : Fin 1024) : lower K r p ≤ 1024 :=
  (Finset.card_le_univ _).trans (by simp)

/-- Column `768 + t`. -/
abbrev tailCol (t : Fin 256) : Fin 1024 := ⟨768 + t.val, by omega⟩

theorem below_val (r : Fin 64) (K : IVec S64x1024 32) (x : S256.Idx) :
    below (F := Ideal) r.val r.isLt K (tails K) x = ((lower K r (tailCol (x 0)) : ℕ) : EReal) := by
  pointwise [below, tails]
  rw [lower, ← Finset.sum_boole]
  refine Finset.sum_congr rfl fun j _ => ?_
  rw [bit_val]
  refine if_congr ?_ rfl rfl
  exact bit_iff _

theorem rank_val (r : Fin 64) (K : IVec S64x1024 32) (x : S256x1.Idx) :
    rank (F := Ideal) (below (F := Ideal) r.val r.isLt K (tails K)) x = BitVec.ofNat 32 (lower K r (tailCol (x 0))) := by
  pointwise [rank]
  rw [below_val]
  exact word_of_count (lt_of_le_of_lt (lower_le _ _ _) (by norm_num))

theorem rank_at (r : Fin 64) (K : IVec S64x1024 32) (t : Fin 256) :
    rank (F := Ideal) (below (F := Ideal) r.val r.isLt K (tails K)) (ix2 t 0) = BitVec.ofNat 32 (lower K r (tailCol t)) :=
  rank_val r K (ix2 t 0)

/-- The two digits of a number up to 1024, in base 32, read off its word. -/
theorem digits {n : ℕ} (h : n ≤ 1024) (a b : Fin 32) :
    (IntOp.cmpi CmpIPredicate.eq (IntOp.shrsi ArithUnit.vector (BitVec.ofNat 32 n) 5#32) (BitVec.ofNat 32 a.val) = 1#1
      ∧ IntOp.cmpi CmpIPredicate.eq (IntOp.andi (BitVec.ofNat 32 n) 31#32) (BitVec.ofNat 32 b.val) = 1#1) ↔ n = 32 * a.val + b.val := by
  have hs : IntOp.shrsi ArithUnit.vector (BitVec.ofNat 32 n) 5#32 = BitVec.ofNat 32 (n / 32) := by
    show (if (5#32 : BitVec 32).toNat < 32 then (BitVec.ofNat 32 n).sshiftRight (5#32 : BitVec 32).toNat else _) = _
    rw [if_pos (by decide), BitVec.sshiftRight_eq_of_msb_false (by rw [BitVec.msb_eq_decide, BitVec.toNat_ofNat]; simp; omega)]
    apply BitVec.eq_of_toNat_eq
    rw [BitVec.toNat_ushiftRight, BitVec.toNat_ofNat, BitVec.toNat_ofNat, BitVec.toNat_ofNat, Nat.shiftRight_eq_div_pow]
    norm_num
    omega
  have ha : IntOp.andi (BitVec.ofNat 32 n) 31#32 = BitVec.ofNat 32 (n % 32) := by
    apply BitVec.eq_of_toNat_eq
    show (BitVec.ofNat 32 n &&& 31#32).toNat = _
    rw [BitVec.toNat_and, BitVec.toNat_ofNat, BitVec.toNat_ofNat, show 31 % 2 ^ 32 = 2 ^ 5 - 1 from rfl,
      Nat.and_two_pow_sub_one_eq_mod, BitVec.toNat_ofNat]
    omega
  have hc : ∀ x y : ℕ, x < 2 ^ 32 → y < 2 ^ 32 →
      (IntOp.cmpi CmpIPredicate.eq (BitVec.ofNat 32 x) (BitVec.ofNat 32 y) = 1#1 ↔ x = y) := by
    intro x y hx hy
    show BitVec.ofBool (decide (BitVec.ofNat 32 x = BitVec.ofNat 32 y)) = 1#1 ↔ _
    rw [bit_iff, decide_eq_true_iff]
    constructor
    · intro e
      have e' := congrArg BitVec.toNat e
      rw [BitVec.toNat_ofNat, BitVec.toNat_ofNat, Nat.mod_eq_of_lt hx, Nat.mod_eq_of_lt hy] at e'
      exact e'
    · rintro rfl; rfl
  have := a.isLt
  have := b.isLt
  rw [hs, ha, hc _ _ (by omega) (by omega), hc _ _ (by omega) (by omega)]
  omega

/-- The store is zero where no one of the last 256 keys has that many keys below it. -/
theorem tally_zero_iff (K : IVec S64x1024 32) (r : Fin 64) (x : S1x32x32.Idx) :
    tally (F := Ideal) (rank (F := Ideal) (below (F := Ideal) r.val r.isLt K (tails K))) x = (0 : EReal)
      ↔ ∀ t : Fin 256, lower K r (tailCol t) ≠ 32 * (x 1).val + (x 2).val := by
  have e : tally (F := Ideal) (rank (F := Ideal) (below (F := Ideal) r.val r.isLt K (tails K))) x
      = ∑ t : Fin 256, if lower K r (tailCol t) = 32 * (x 1).val + (x 2).val then (1 : EReal) else 0 := by
    pointwise [tally, onehot]
    refine Finset.sum_congr rfl fun t _ => ?_
    rw [bit_val, bit_val, rank_at, ← if_congr (digits (lower_le K r (tailCol t)) (x 1) (x 2)) rfl rfl, ite_and]
    split_ifs <;> simp
  rw [e, Finset.sum_boole]
  simp [Finset.filter_eq_empty_iff]

end Cert.Tally
-- ==== Proof.Order.lean ====
/-
  The orders of the two programs on one row: the floats the reference sorts are ordered as the top 23 bits of the
  generator's words; the kernel's keys are ordered by those bits first and by the number of the column's pair after.
-/
module

public import proofs.«01_k».proof.Proof.RefRun
public import proofs.«01_k».proof.Proof.Keys
public import proofs.«01_k».proof.Proof.Tally
public import Idealize.ShloMosaic.Lib.IdealHost
public import Idealize.ShloMosaic.PureOps.Ideal.Laws

@[expose] public section

noncomputable section

namespace Cert.Order

open Idealize.ShloMosaic Cert.RefRun Cert.Keys

/-! ## The kernel's keys -/

/-- Flipping the sign bit turns the signed order into the unsigned one. -/
theorem slt_flip (x y : BitVec 32) : (x ^^^ 2147483648#32).slt (y ^^^ 2147483648#32) = decide (x.toNat < y.toNat) := by
  have h : ∀ z : BitVec 32, (z ^^^ 2147483648#32).toInt = (z.toNat : ℤ) - 2147483648 := by
    intro z
    have e : z ^^^ 2147483648#32 = z + 2147483648#32 := by
      have hm : (2147483648#32 : BitVec 32) = BitVec.cons true 0#31 := by decide
      rw [← BitVec.cons_msb_setWidth z, hm, BitVec.cons_xor_cons]
      apply BitVec.eq_of_toNat_eq
      rw [BitVec.toNat_add, BitVec.toNat_cons', BitVec.toNat_cons', BitVec.toNat_cons', BitVec.xor_zero]
      have := (z.setWidth 31).isLt
      cases z.msb <;> simp only [Nat.shiftLeft_eq, Bool.toNat_true, Bool.toNat_false, Bool.false_xor, Bool.true_xor,
        Bool.not_true, BitVec.toNat_ofNat] <;> omega
    rw [e, BitVec.toInt_eq_toNat_cond, BitVec.toNat_add]
    have := z.isLt
    simp only [BitVec.toNat_ofNat, Nat.reducePow, Nat.reduceMod]
    split_ifs <;> omega
  rw [BitVec.slt_eq_decide, h, h]
  exact decide_eq_decide.mpr (by omega)

/-- The low nine bits replaced. -/
theorem packed (w : BitVec 32) {j : ℕ} (h : j < 1024) :
    ((w &&& 4294966784#32) ||| (BitVec.ofNat 32 j >>> 1)).toNat = 512 * (w.toNat >>> 9) + j / 2 := by
  have e : w &&& 4294966784#32 = w >>> 9 <<< 9 := by
    rw [BitVec.shiftLeft_ushiftRight]
    rfl
  have hw := w.isLt
  rw [e, BitVec.toNat_or, BitVec.toNat_shiftLeft, BitVec.toNat_ushiftRight, BitVec.toNat_ushiftRight, BitVec.toNat_ofNat,
    Nat.mod_eq_of_lt (by omega : j < 2 ^ 32), Nat.shiftRight_eq_div_pow j 1, Nat.mod_eq_of_lt,
    ← Nat.shiftLeft_add_eq_or_of_lt (by omega : j / 2 ^ 1 < 2 ^ 9), Nat.shiftLeft_eq]
  · omega
  · rw [Nat.shiftLeft_eq, Nat.shiftRight_eq_div_pow]
    omega

/-- The kernel's order: the words' top bits, and the pair's number at equal ones. -/
theorem key_lt (w w' : BitVec 32) {j j' : ℕ} (h : j < 1024) (h' : j' < 1024) :
    (key w (BitVec.ofNat 32 j)).slt (key w' (BitVec.ofNat 32 j')) = true ↔
      w.toNat >>> 9 < w'.toNat >>> 9 ∨ w.toNat >>> 9 = w'.toNat >>> 9 ∧ j / 2 < j' / 2 := by
  rw [key, key, slt_flip, decide_eq_true_iff, packed w h, packed w' h']
  omega

/-! ## The reference's floats -/

/-- The float made of a word's top bits: that fraction of one. -/
theorem flt_val (w : BitVec 32) : flt w = ((((w.toNat >>> 9 : ℕ) : ℝ) / 8388608 : ℝ) : EReal) := by
  have hb : Ideal.ofBits .f32 ((w >>> 9) ||| 1065353216#32) = (((1 : ℝ) + ((w.toNat >>> 9 : ℕ) : ℝ) / 8388608 : ℝ) : EReal) := by
    have hw := w.isLt
    have hl : w.toNat >>> 9 < 2 ^ 23 := by rw [Nat.shiftRight_eq_div_pow]; omega
    have hn : ((w >>> 9) ||| 1065353216#32).toNat = 1065353216 + w.toNat >>> 9 := by
      rw [BitVec.toNat_or, BitVec.toNat_ushiftRight, Nat.or_comm]
      exact (Nat.shiftLeft_add_eq_or_of_lt hl 127).symm
    have h1 : BitVec.extractLsb' (8 + 23) 1 ((w >>> 9) ||| 1065353216#32) = 0#1 := by
      apply BitVec.eq_of_toNat_eq
      rw [BitVec.extractLsb'_toNat, hn, Nat.shiftRight_eq_div_pow]
      simp only [BitVec.toNat_ofNat]; omega
    have h2 : (BitVec.extractLsb' 23 8 ((w >>> 9) ||| 1065353216#32)).toNat = 127 := by
      rw [BitVec.extractLsb'_toNat, hn, Nat.shiftRight_eq_div_pow (1065353216 + _)]
      omega
    have h3 : (BitVec.extractLsb' 0 23 ((w >>> 9) ||| 1065353216#32)).toNat = w.toNat >>> 9 := by
      rw [BitVec.extractLsb'_toNat, hn, Nat.shiftRight_zero]
      omega
    show Ideal.ieee 8 23 ((w >>> 9) ||| 1065353216#32) = _
    unfold Ideal.ieee
    rw [h1, h2, h3]
    rw [if_neg (by decide), if_neg (by decide)]
    refine congrArg _ ?_
    norm_num
    ring
  show max (Ideal.ofBits .f32 0x00000000#32) ((Ideal.ofBits .f32 ((w >>> 9) ||| 1065353216#32) - Ideal.ofBits .f32 0x3F800000#32) *
    (Ideal.ofBits .f32 0x3F800000#32 - Ideal.ofBits .f32 0x00000000#32) + Ideal.ofBits .f32 0x00000000#32) = _
  rw [hb, Ideal.ofBits_one_f32, Ideal.ofBits_zero_f32, sub_zero, mul_one, add_zero, ← EReal.coe_one, ← EReal.coe_sub,
    add_sub_cancel_left]
  exact max_eq_right (by exact_mod_cast (by positivity : (0 : ℝ) ≤ (w.toNat >>> 9 : ℕ) / 8388608))

/-- The reference's comparator on two such floats. -/
theorem comparator_flt (w w' a a' : BitVec 32) :
    (Cert.ReferenceIdeal.comparator_f32_i32_d1 (F := Ideal) (flt w, a) (flt w', a') == 1#1) =
      decide (w.toNat >>> 9 < w'.toNat >>> 9) := by
  have hs : ∀ v : Ideal .f32, Scalar.select (FloatOps.cmpf .une v v) (FloatOps.ofBits .f32 0x7FC00000#32)
      (Scalar.select (FloatOps.cmpf .oeq v (FloatOps.ofBits .f32 0x00000000#32)) (FloatOps.ofBits .f32 0x00000000#32) v) = v := by
    intro v
    have h1 : FloatOps.cmpf .une v v = (0#1 : BitVec 1) := by
      show BitVec.ofBool (decide (v ≠ v)) = 0#1
      rw [decide_eq_false (not_not_intro rfl)]; rfl
    rw [h1, Scalar.select, if_neg (by decide), Scalar.select]
    split_ifs with h
    · exact (of_decide_eq_true ((Cert.Tally.bit_iff _).mp h)).symm
    · rfl
  unfold Cert.ReferenceIdeal.comparator_f32_i32_d1
  dsimp only
  rw [hs, hs, Ideal.cmpfTotal_def, flt_val, flt_val]
  show (BitVec.ofBool (decide _) == 1#1) = _
  rw [Bool.eq_iff_iff, beq_iff_eq, Cert.Tally.bit_iff, decide_eq_true_iff, decide_eq_true_iff, EReal.coe_lt_coe_iff,
    div_lt_div_iff_of_pos_right (by norm_num), Nat.cast_lt]

/-! ## Counting -/

/-- A bijection of positions that is increasing for an order puts at each position an element with that many before it. -/
theorem card_before {n : ℕ} (π : Fin n → Fin n) (hs : Function.Surjective π) (lt : Fin n → Fin n → Prop) [DecidableRel lt]
    (hm : ∀ p q, p < q → lt (π p) (π q)) (ha : ∀ a b, lt a b → ¬ lt b a) (p : Fin n) :
    (Finset.univ.filter fun j => lt j (π p)).card = p.val := by
  have hi : Function.Injective π := Finite.injective_iff_surjective.mpr hs
  have e : (Finset.univ.filter fun j => lt j (π p)) = (Finset.Iio p).map ⟨π, hi⟩ := by
    ext j
    obtain ⟨q, rfl⟩ := hs j
    simp only [Finset.mem_filter, Finset.mem_univ, true_and, Finset.mem_map, Finset.mem_Iio, Function.Embedding.coeFn_mk]
    constructor
    · intro h
      refine ⟨q, ?_, rfl⟩
      rcases lt_trichotomy q p with hq | rfl | hq
      · exact hq
      · exact absurd h (ha _ _ h)
      · exact absurd (hm _ _ hq) (ha _ _ h)
    · rintro ⟨r, hr, e⟩
      exact hi e ▸ hm _ _ hr
  rw [e, Finset.card_map, Fin.card_Iio]

end Cert.Order
-- ==== Proof.KernelValue.lean ====
/-
  What the kernel's run leaves in its result: at row `i`, column `p`, whether no one of the row's last 256 keys has
  exactly `p` keys below it.
-/
module

public import proofs.«01_k».proof.Proof.KernelFrame
public import proofs.«01_k».proof.Proof.Tally
public import Idealize.ShloMosaic.Lib.Pipeline.ValueKit

@[expose] public section

set_option maxRecDepth 16384

noncomputable section

namespace Cert.KernelValue

open Idealize.ShloMosaic Idealize.ShloMosaic.TcCoe Idealize.ShloMosaic.Tactic Cert.KernelIdeal Cert.KernelIdeal.Gen Cert.Rows
open Idealize.SL.Sem
open Cert.KernelFrame Cert.Tally
open Idealize.ShloMosaic (ix2 ix3)

variable (m : (ℓ : Loc nD τ sig) → Buf (Elt Ideal) ℓ) (ρ : Dev nD → PrngReg)

/-- The grid step that fills row `r` of the result. -/
def stepOf (r : Fin 256) : grid0.Coords := grid0.coords ⟨r.val / 64, by rw [N_0]; have := r.isLt; omega⟩

/-- The row of that step's block. -/
def rowOf (r : Fin 256) : Fin 64 := ⟨r.val % 64, Nat.mod_lt _ (by decide)⟩

theorem coord : ∀ t : Fin cfg0.N, (grid0.coords t 0).val = t.val := (by decide +kernel : ∀ t : Fin grid0.N, _)

theorem stepOf_val (r : Fin 256) : (stepOf r 0).val = r.val / 64 := coord _

/-- A step's block at an index. -/
theorem left_at (i : grid0.Coords) (r : Fin 64) (a b : Fin 32) : Rows.left (F := Ideal) i (ix3 r a b) =
    tally (F := Ideal) (rank (F := Ideal) (below (F := Ideal) r.val r.isLt (keys i) (tails (keys i)))) (ix3 0 a b) := by
  have e : ix3 r a b = (rowRect r.val r.isLt).emb (ix3 0 a b) := by
    funext k
    fin_cases k <;> apply Fin.ext
    · show r.val = r.val + 1 * 0; omega
    · show a.val = 0 + 1 * a.val; omega
    · show b.val = 0 + 1 * b.val; omega
  rw [e]
  exact canon_stores _ r.val r.isLt _ 64 le_rfl r.isLt

/-- What the launch's output ends with. -/
def filled : (⟨S256x32x32, .f32⟩ : BufTy).Contents (Elt Ideal) := fun y =>
  Rows.left (F := Ideal) (stepOf (y 0)) (ix3 (rowOf (y 0)) (y 1) (y 2))

theorem block_index : ∀ t : Fin cfg0.N, win0_0.index t = ![(grid0.coords t 0).val, 0, 0] :=
  (by decide +kernel : ∀ t : Fin grid0.N, _)

theorem output (c : Dev nD) : (dats m 0 c).arrAt 0 cfg0.N = filled := by
  refine (dats m 0 c).arrAt_eq_of_covers 0 _ (by decide +kernel) fun t _ y => ?_
  blk_simp
  rw [dats_after]
  have h0 : ((((win0_0.blk t).view.emb y) 0 : Fin 256) : ℕ) = t.val * 64 + (y 0).val := by
    blk_simp [block_index]
    rw [coord]
  have h1 : ((((win0_0.blk t).view.emb y) 1 : Fin 32) : ℕ) = (y 1).val := by
    blk_simp [block_index]
  have h2 : ((((win0_0.blk t).view.emb y) 2 : Fin 32) : ℕ) = (y 2).val := by
    blk_simp [block_index]
  have hy : (y 0).val < 64 := (y 0).isLt
  unfold filled stepOf rowOf
  congr 1
  · congr 1
    apply Fin.ext
    show t.val = _ / 64
    rw [h0]; omega
  · funext k
    fin_cases k <;> apply Fin.ext
    · show (y 0).val = _ % 64
      rw [h0]; omega
    · exact h1.symm
    · exact h2.symm

/-- The host lines' result, from the launch's output. -/
theorem host_result (V : Valuation τ sig (Elt Ideal)) (X : (⟨S256x32x32, .f32⟩ : BufTy).Contents (Elt Ideal))
    (hX : V (Proc.devRef .tc main_v0) = X) : StableHlo.after hostOps1 V (Proc.devRef .tc main_v3) =
    cmpf (F := Ideal) (φ := .f32) .oeq (shapeCast S256x1024 X shapeCasts_S256x32x32_S256x1024)
      (broadcastInDim S256x1024 ![] bcast_S_S256x1024 (constant S_ .f32 0x00000000#32)) := by
  subst hX
  after_results
  rfl

theorem lines_flat : List.flatten [hostOps1] = (hostOps1 : List (HloOp τ sig (Elt Ideal))) := List.append_nil _

/-- The result: whether no key of the row's tail has that many keys below it. -/
theorem result_at (c : Dev nD) (i : S256x1024.Idx) :
    Pipeline.afterTail₀ cfgs (dats m) 0 (atEntry m) [hostOps1] c main_v3 i =
    BitVec.ofBool (decide (∀ t : Fin 256, lower (keys (stepOf (i 0))) (rowOf (i 0)) (tailCol t) ≠ (i 1).val)) := by
  unfold Pipeline.afterTail₀
  rw [lines_flat, host_result _ filled ((Pipeline.withArrays_arr spec0 winFacts0.arr_inj c (atEntry m c)
    (fun w => (dats m 0 c).arrAt w cfg0.N) 0).trans (output m c))]
  pointwise
  refine congrArg BitVec.ofBool (decide_eq_decide.mpr ?_)
  have e := left_at (stepOf (i 0)) (rowOf (i 0)) ⟨(i 1).val / 32, by have : (i 1).val < 1024 := (i 1).isLt; omega⟩
    ⟨(i 1).val % 32, Nat.mod_lt _ (by decide)⟩
  refine (Iff.of_eq (congrArg (· = (0 : EReal)) e)).trans ?_
  rw [tally_zero_iff]
  show (∀ t : Fin 256, lower (keys (stepOf (i 0))) (rowOf (i 0)) (tailCol t) ≠ 32 * ((i 1).val / 32) + (i 1).val % 32) ↔ _
  rw [Nat.div_add_mod]

end Cert.KernelValue
-- ==== Proof.Apart.lean ====
/-
  No two neighbouring columns `2 q`, `2 q + 1` of a row's tail carry generated words with equal upper
  23 bits: an evaluation over the 256 rows and the 128 pairs of each.
-/
module

public import proofs.«01_k».proof.Proof.Threefry

@[expose] public section

set_option maxRecDepth 16384

namespace Cert.Threefry

theorem all_apart : allN (fun m => apart (pairAt m)) 15 0 = true := by decide +kernel

end Cert.Threefry

end
-- ==== Proof.Agree.lean ====
/-
  The two results are equal: in a row, the element the stable sort puts at a position is the one with that many elements
  before it, and for an element of the tail those are the ones whose keys are below its own, because no pair of columns
  of the tail has equal floats.
-/
module

public import proofs.«01_k».proof.Proof.Order
public import proofs.«01_k».proof.Proof.KernelValue
public import proofs.«01_k».proof.Proof.Apart
public import Idealize.ShloMosaic.Lib.PlanTiles.StableSort

@[expose] public section

noncomputable section

namespace Cert.Agree

open Idealize.ShloMosaic Cert.Threefry Cert.RefRun Cert.Keys Cert.Order Cert.Tally Cert.KernelValue
open Idealize.ShloMosaic (ix2)

/-- The top bits of the generator's word at a row and column. -/
def top (r : Fin 256) (j : Fin 1024) : ℕ := (word (BitVec.ofNat 32 (1024 * r.val + j.val))).toNat >>> 9

theorem top_lt (r : Fin 256) (j : Fin 1024) : top r j < 8388608 := by
  have := (word (BitVec.ofNat 32 (1024 * r.val + j.val))).isLt
  rw [top, Nat.shiftRight_eq_div_pow]
  omega

/-- The reference's order on a row's columns: the top bits, then the column. -/
def before (r : Fin 256) (j a : Fin 1024) : Prop := top r j < top r a ∨ top r j = top r a ∧ j < a

instance (r : Fin 256) : DecidableRel (before r) := fun j a => inferInstanceAs (Decidable (_ ∨ _))

/-- Where the reference's sort takes each position's element from. -/
def source (r : Fin 256) : Fin 1024 → Fin 1024 := sortedFrom fun k k' => decide (top r k < top r k')

/-- A stable sort by rising `G` orders the positions by `G`, then by themselves. -/
theorem sorted_before {n : ℕ} (G : Fin n → ℕ) (B : ℕ) (hB : ∀ k, G k < B) (p q : Fin n) (h : p < q) :
    let π := sortedFrom fun k k' => decide (G k < G k')
    G (π p) < G (π q) ∨ G (π p) = G (π q) ∧ π p < π q := by
  intro π
  have hR : (fun k k' => decide (G k < G k')) = fun k k' => decide (B - G k' < B - G k) := by
    funext k k'
    have := hB k
    have := hB k'
    exact decide_eq_decide.mpr (by omega)
  have hp := List.pairwise_iff_get.mp (PlanTiles.pairwise_stableSort_lex (fun k => B - G k) (· < ·)
    (List.finRange n) (List.pairwise_lt_finRange n))
  rw [← hR] at hp
  have e : B - G (π q) < B - G (π p) ∨ B - G (π p) = B - G (π q) ∧ π p < π q :=
    hp (p.cast (length_sortPositions n _).symm) (q.cast (length_sortPositions n _).symm) h
  have h1 := hB (π p)
  have h2 := hB (π q)
  rcases e with e | ⟨e, e'⟩
  · exact Or.inl (by omega)
  · exact Or.inr ⟨by omega, e'⟩

theorem source_before (r : Fin 256) (p q : Fin 1024) (h : p < q) : before r (source r p) (source r q) :=
  sorted_before (top r) _ (top_lt r) p q h

/-- The element at a position has that many elements before it. -/
theorem card_source (r : Fin 256) (p : Fin 1024) : (Finset.univ.filter fun j => before r j (source r p)).card = p.val := by
  refine card_before (source r) (sortedFrom_surjective _) (before r) (source_before r) ?_ p
  intro a b h h'
  unfold before at h h'
  omega

/-- No pair of columns of the tail has equal floats. -/
theorem top_ne (r : Fin 256) (j a : Fin 1024) (ha : 768 ≤ a.val) (hj : j.val / 2 = a.val / 2) (hne : j ≠ a) : top r j ≠ top r a := by
  have key : ∀ q : ℕ, 384 ≤ q → q < 512 → ∀ x y : Fin 1024, x.val = 2 * q → y.val = 2 * q + 1 → top r x ≠ top r y := by
    intro q h1 h2 x y hx hy
    have hr := r.isLt
    have hm : pairAt (128 * r.val + (q - 384)) = 1024 * r.val + 2 * q := by
      show (128 * r.val + (q - 384)) / 128 * 1024 + (768 + 2 * ((128 * r.val + (q - 384)) % 128)) = _
      omega
    have h := allN_spec _ 15 0 all_apart (128 * r.val + (q - 384)) (Nat.zero_le _) (by omega)
    rw [hm, apart_eq _ (by omega)] at h
    intro e
    rw [top, top, hx, hy] at e
    rw [← Nat.add_assoc] at e
    rw [e] at h
    simp at h
  have hv : j.val ≠ a.val := fun e => hne (Fin.ext e)
  have := a.isLt
  rcases Nat.lt_or_gt_of_ne hv with h | h
  · exact key (a.val / 2) (by omega) (by omega) j a (by omega) (by omega)
  · exact (key (a.val / 2) (by omega) (by omega) a j (by omega) (by omega)).symm

/-- The keys below one of the tail's are the elements before it. -/
theorem lower_eq (r : Fin 256) (a : Fin 1024) (ha : 768 ≤ a.val) :
    lower (Cert.Rows.keys (stepOf r)) (rowOf r) a = (Finset.univ.filter fun j => before r j a).card := by
  unfold lower
  have hn : ∀ j : Fin 1024, Cert.Rows.keys (stepOf r) (ix2 (rowOf r) j) =
      key (word (BitVec.ofNat 32 (1024 * r.val + j.val))) (BitVec.ofNat 32 j.val) := by
    intro j
    rw [keys_at]
    show key (word (BitVec.ofNat 32 (1024 * (64 * (stepOf r 0).val + r.val % 64) + j.val))) (BitVec.ofNat 32 j.val) = _
    rw [stepOf_val, Nat.div_add_mod]
  congr 1
  refine Finset.filter_congr fun j _ => ?_
  rw [hn, hn, key_lt _ _ j.isLt a.isLt]
  show (top r j < top r a ∨ top r j = top r a ∧ j.val / 2 < a.val / 2) ↔ before r j a
  unfold before
  constructor
  · rintro (h | ⟨h, h'⟩)
    · exact Or.inl h
    · exact Or.inr ⟨h, Fin.lt_def.mpr (by omega)⟩
  · rintro (h | ⟨h, h'⟩)
    · exact Or.inl h
    · refine Or.inr ⟨h, lt_of_le_of_ne (Nat.div_le_div_right (Fin.lt_def.mp h').le) fun e => ?_⟩
      exact top_ne r j a ha e (ne_of_lt h') h

/-- No key of the tail has `p` keys below it where the element at position `p` is not of the tail. -/
theorem tail_iff (r : Fin 256) (p : Fin 1024) :
    (∀ t : Fin 256, lower (Cert.Rows.keys (stepOf r)) (rowOf r) (tailCol t) ≠ p.val) ↔ (source r p).val < 768 := by
  constructor
  · intro h
    by_contra hp
    have := (source r p).isLt
    have e : tailCol ⟨(source r p).val - 768, by omega⟩ = source r p := Fin.ext (by show 768 + _ = _; dsimp only; omega)
    exact h ⟨(source r p).val - 768, by omega⟩ (by rw [e, lower_eq r _ (by omega), card_source])
  · intro h t e
    have ht : 768 ≤ (tailCol t).val := Nat.le_add_right 768 t.val
    obtain ⟨q, hq⟩ := sortedFrom_surjective (fun k k' : Fin 1024 => decide (top r k < top r k')) (tailCol t)
    have hq' : source r q = tailCol t := hq
    rw [lower_eq r _ ht, ← hq', card_source] at e
    have : q = p := Fin.ext e
    rw [← hq', this] at ht
    omega

/-- What a stable sort of a pair of arrays puts in the second one. -/
theorem sort2_snd {s : Shape} {d : ℕ} (hd : d < s.rank) {α β : Type} (cmp : α × β → α × β → BitVec 1) (x : s.Idx → α)
    (y : s.Idx → β) (j : s.Idx) (R : Fin (s.size ⟨d, hd⟩) → Fin (s.size ⟨d, hd⟩) → Bool)
    (hR : ∀ k k', (cmp (x (j.along ⟨d, hd⟩ k), y (j.along ⟨d, hd⟩ k)) (x (j.along ⟨d, hd⟩ k'), y (j.along ⟨d, hd⟩ k')) == 1#1) = R k k') :
    (Host.sort2 s d cmp x y).2 j = y (j.along ⟨d, hd⟩ (sortedFrom R (j ⟨d, hd⟩))) := by
  obtain rfl : _ = R := funext fun k => funext fun k' => hR k k'
  rw [Host.sort2, dif_pos hd]

/-- A column number is read off the column. -/
theorem column_along (i : Cert.ReferenceIdeal.S256x1024.Idx) (k : Fin 1024) :
    iotaInDim Cert.ReferenceIdeal.S256x1024 32 1 (i.along (1 : Fin 2) k) = BitVec.ofNat 32 k.val := rfl

/-- The reference's result: whether the element at a position is not of the tail. -/
theorem reference_at (i : Cert.ReferenceIdeal.S256x1024.Idx) :
    result i = BitVec.ofBool (decide ((source (i 0) (i 1)).val < 768)) := by
  have hs : (Host.sort2 Cert.ReferenceIdeal.S256x1024 1 (Cert.ReferenceIdeal.comparator_f32_i32_d1 (F := Ideal)) noise
      (iotaInDim Cert.ReferenceIdeal.S256x1024 32 1)).2 i = BitVec.ofNat 32 (source (i 0) (i 1)).val := by
    have hd : 1 < Cert.ReferenceIdeal.S256x1024.rank := by decide
    refine (sort2_snd hd _ noise _ i (fun k k' : Fin 1024 => decide (top (i 0) k < top (i 0) k'))
      fun k k' => comparator_flt _ _ _ _).trans ?_
    exact column_along i (source (i 0) (i 1))
  rw [result, hs]
  show BitVec.ofBool ((BitVec.ofNat 32 (source (i 0) (i 1)).val).slt 768#32) = _
  have := (source (i 0) (i 1)).isLt
  rw [BitVec.slt_eq_decide]
  refine congrArg BitVec.ofBool (decide_eq_decide.mpr ?_)
  rw [BitVec.toInt_eq_toNat_of_msb (by rw [BitVec.msb_eq_decide, BitVec.toNat_ofNat]; simp; omega), BitVec.toNat_ofNat]
  have h7 : (768#32 : BitVec 32).toInt = 768 := by decide
  rw [h7]
  omega

/-- The kernel's run leaves the reference's result. -/
theorem results_eq (m : (ℓ : Loc Cert.KernelIdeal.nD Cert.KernelIdeal.τ Cert.KernelIdeal.sig) → Buf (Elt Ideal) ℓ)
    (c : Dev Cert.KernelIdeal.nD) :
    Pipeline.afterTail₀ Cert.KernelIdeal.cfgs (KernelFrame.dats m) 0 (KernelFrame.atEntry m) [Cert.KernelIdeal.Gen.hostOps1] c
      Cert.KernelIdeal.main_v3 = result := by
  funext i
  refine (result_at m c i).trans ((congrArg BitVec.ofBool (decide_eq_decide.mpr ?_)).trans (reference_at i).symm)
  exact tail_iff (i 0) (i 1)

end Cert.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.SameProgram
public import proofs.«01_k».proof.Proof.Agree
public import Idealize.ShloMosaic.Adequacy
public import Idealize.ShloMosaic.Init

@[expose] public section

noncomputable section

namespace Cert.Proof

open Idealize.ShloMosaic Idealize.SL.Sem

/-- The idealized kernel's result is the reference's. -/
theorem same_result : Cert.algebraic_KernelIdeal_ReferenceIdeal := fun m g m' g' _ _ =>
  ⟨fun _ => Cert.RefRun.result,
    (θ_run Cert.KernelIdeal.defs _ _).mono (fun _ h c =>
      ⟨((h.1 c).2 Cert.KernelIdeal.main_v3 (Pipeline.mem_restRefs_of Cert.KernelIdeal.main_v3 (by decide) (by decide))).trans
        (Cert.Agree.results_eq m c),
       ((h.1 c).2 Cert.KernelIdeal.main_arg0 (Pipeline.mem_restRefs_of Cert.KernelIdeal.main_arg0 (by decide) (by decide))).trans
        (Cert.KernelFrame.arg_kept m c)⟩) (Cert.KernelFrame.runs m g),
    Cert.RefRun.run m' g'⟩

theorem claim : Cert.Claim := ⟨Cert.Kernel.Gen.facts, Cert.KernelIdeal.Gen.facts, Cert.ReferenceIdeal.Gen.facts,
  Cert.SameProgram.frame, fun m g _ => Cert.KernelFrame.frame m g, Cert.RefRun.frame, trivial, same_result⟩

end Cert.Proof

end
